-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x768x1024 : Shape := ⟨3, ![24, 768, 1024]⟩
abbrev S1024x2816 : Shape := ⟨2, ![1024, 2816]⟩
abbrev S1024 : Shape := ⟨1, ![1024]⟩
abbrev S1x1024 : Shape := ⟨2, ![1, 1024]⟩
abbrev S18432x1024 : Shape := ⟨2, ![18432, 1024]⟩
abbrev S18432x2816 : Shape := ⟨2, ![18432, 2816]⟩
abbrev S1x1 : Shape := ⟨2, ![1, 1]⟩
abbrev S24x768 : Shape := ⟨2, ![24, 768]⟩
abbrev S512x1024 : Shape := ⟨2, ![512, 1024]⟩
abbrev S512x2816 : Shape := ⟨2, ![512, 2816]⟩
abbrev S144x128 : Shape := ⟨2, ![144, 128]⟩
abbrev S8x2816 : Shape := ⟨2, ![8, 2816]⟩
abbrev S1x8x2816 : Shape := ⟨3, ![1, 8, 2816]⟩
abbrev S1 : Shape := ⟨1, ![1]⟩
abbrev S1x1x1 : Shape := ⟨3, ![1, 1, 1]⟩
abbrev S128x2816 : Shape := ⟨2, ![128, 2816]⟩
abbrev S512 : Shape := ⟨1, ![512]⟩
abbrev S512x1 : Shape := ⟨2, ![512, 1]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S24x128 : Shape := ⟨2, ![24, 128]⟩

abbrev nBuf : Space → Nat
  | .hbm => 10
  | .vmem => 12
  | .smem => 1
  | _ => 0

abbrev bufTy : (tb : Table) → Fin (tcTables nBuf tb) → BufTy
  | .hbm, ⟨0, _⟩ => ⟨S24x768x1024, .bf16⟩
  | .hbm, ⟨1, _⟩ => ⟨S1024x2816, .f32⟩
  | .hbm, ⟨2, _⟩ => ⟨S1024, .f32⟩
  | .hbm, ⟨3, _⟩ => ⟨S1x1024, .f32⟩
  | .hbm, ⟨4, _⟩ => ⟨S18432x1024, .bf16⟩
  | .hbm, ⟨5, _⟩ => ⟨S18432x2816, .bf16⟩
  | .hbm, ⟨6, _⟩ => ⟨S1024x2816, .i8⟩
  | .hbm, ⟨7, _⟩ => ⟨S1x1, .f32⟩
  | .hbm, ⟨8, _⟩ => ⟨S18432x1024, .i8⟩
  | .hbm, ⟨9, _⟩ => ⟨S24x768, .f32⟩
  | .local _ .vmem, ⟨0, _⟩ => ⟨S1024x2816, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S512x2816, .bf16⟩
  | .local _ .vmem, ⟨5, _⟩ => ⟨S512x2816, .bf16⟩
  | .local _ .vmem, ⟨6, _⟩ => ⟨S1024x2816, .i8⟩
  | .local _ .vmem, ⟨7, _⟩ => ⟨S512x1024, .i8⟩
  | .local _ .vmem, ⟨8, _⟩ => ⟨S512x1024, .i8⟩
  | .local _ .vmem, ⟨9, _⟩ => ⟨S24x768, .f32⟩
  | .local _ .vmem, ⟨10, _⟩ => ⟨S1024x2816, .bf16⟩
  | .local _ .vmem, ⟨11, _⟩ => ⟨S144x128, .f32⟩
  | .local _ .smem, ⟨0, _⟩ => ⟨S1x1, .f32⟩
  | _, _ => ⟨S24x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_39 : BitVec 32 := 0#32
  let c128_i32 : BitVec 32 := 128#32
  let v116 : BitVec 32 := Scalar.addi c0_i32_39 c128_i32
  let c1_i32_40 : BitVec 32 := 1#32
  ⟨c0_i32_39, v116, c1_i32_40⟩
def k0_mult1 (k0_t1 : Fin k0_t1_loop.trips) : BitVec 32 :=
  let c0_i32_39 : BitVec 32 := 0#32
  let c1_i32_40 : BitVec 32 := 1#32
  let arg11 : BitVec 32 := Scf.iv c0_i32_39 c1_i32_40 k0_t1
  let c8_i32_49 : BitVec 32 := 8#32
  let v125 : BitVec 32 := Scalar.muli arg11 c8_i32_49
  v125
def k0_off1 (k0_t1 : Fin k0_t1_loop.trips) : Fin 2 → Nat :=
  let c0_i32_39 : BitVec 32 := 0#32
  let c1_i32_40 : BitVec 32 := 1#32
  let arg11 : BitVec 32 := Scf.iv c0_i32_39 c1_i32_40 k0_t1
  let c8_i32_49 : BitVec 32 := 8#32
  let v125 : BitVec 32 := Scalar.muli arg11 c8_i32_49
  let v126 : BitVec 32 := v125
  let v127 : Index := Scalar.indexCast v126
  let c0_50 : Index := 0#32
  ![v127.toNat, 0]
@[reducible] def k0_t2_loop : Scf.Loop 32 :=
  let c0_i32_46 : BitVec 32 := 0#32
  let c8_i32 : BitVec 32 := 8#32
  let v124 : BitVec 32 := Scalar.addi c0_i32_46 c8_i32
  let c1_i32_47 : BitVec 32 := 1#32
  ⟨c0_i32_46, v124, c1_i32_47⟩
def k0_mult2 (k0_t2 : Fin k0_t2_loop.trips) : BitVec 32 :=
  let c0_i32_46 : BitVec 32 := 0#32
  let c1_i32_47 : BitVec 32 := 1#32
  let arg11 : BitVec 32 := Scf.iv c0_i32_46 c1_i32_47 k0_t2
  let c128_i32_49 : BitVec 32 := 128#32
  let v125 : BitVec 32 := Scalar.muli arg11 c128_i32_49
  v125
def k0_off2 (k0_t2 : Fin k0_t2_loop.trips) : Fin 2 → Nat :=
  let c0_i32_46 : BitVec 32 := 0#32
  let c1_i32_47 : BitVec 32 := 1#32
  let arg11 : BitVec 32 := Scf.iv c0_i32_46 c1_i32_47 k0_t2
  let c128_i32_49 : BitVec 32 := 128#32
  let v125 : BitVec 32 := Scalar.muli arg11 c128_i32_49
  let v126 : BitVec 32 := v125
  let v127 : Index := Scalar.indexCast v126
  let c0_50 : Index := 0#32
  ![v127.toNat, 0]
def k0_off3 (i : grid0.Coords) (c0_i32_18 : BitVec 32) : Fin 2 → Nat :=
  let arg0 : BitVec 32 := BitVec.ofNat 32 (i 0).val
  let c4_i32 : BitVec 32 := 4#32
  let v50 : BitVec 32 := Scalar.muli arg0 c4_i32
  let v51 : BitVec 32 := Scalar.addi v50 c0_i32_18
  let v52 : Index := Scalar.indexCast v51
  let c0_19 : Index := 0#32
  ![v52.toNat, 0]
def k0_cond2 (i : grid0.Coords) : BitVec 1 :=
  let arg0 : BitVec 32 := BitVec.ofNat 32 (i 0).val
  let c35_i32 : BitVec 32 := 35#32
  let v112 : BitVec 1 := Scalar.cmpi .eq arg0 c35_i32
  let v113 : BitVec 32 := Scalar.extui v112
  let c0_i32_37 : BitVec 32 := 0#32
  let v114 : BitVec 1 := Scalar.cmpi .ne v113 c0_i32_37
  v114

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S24x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S24x768x1024 : Shape := ⟨3, ![24, 768, 1024]⟩
abbrev S1024x2816 : Shape := ⟨2, ![1024, 2816]⟩
abbrev S1024 : Shape := ⟨1, ![1024]⟩
abbrev S18432x2816 : Shape := ⟨2, ![18432, 2816]⟩
abbrev S1x1 : Shape := ⟨2, ![1, 1]⟩
abbrev S18432x1024 : Shape := ⟨2, ![18432, 1024]⟩
abbrev S24x768 : Shape := ⟨2, ![24, 768]⟩
abbrev S1x1024x2816 : Shape := ⟨3, ![1, 1024, 2816]⟩
abbrev S1 : Shape := ⟨1, ![1]⟩
abbrev S1x1x1 : Shape := ⟨3, ![1, 1, 1]⟩
abbrev S24x768x1 : Shape := ⟨3, ![24, 768, 1]⟩
abbrev S1x1x1024 : Shape := ⟨3, ![1, 1, 1024]⟩
abbrev S24x768x2816 : Shape := ⟨3, ![24, 768, 2816]⟩

abbrev nBuf : Space → Nat
  | .hbm => 8
  | .vmem => 8
  | .smem => 0
  | _ => 0

abbrev bufTy : (tb : Table) → Fin (tcTables nBuf tb) → BufTy
  | .hbm, ⟨0, _⟩ => ⟨S24x768x1024, .bf16⟩
  | .hbm, ⟨1, _⟩ => ⟨S1024x2816, .f32⟩
  | .hbm, ⟨2, _⟩ => ⟨S1024, .f32⟩
  | .hbm, ⟨3, _⟩ => ⟨S18432x2816, .bf16⟩
  | .hbm, ⟨4, _⟩ => ⟨S1024x2816, .i8⟩
  | .hbm, ⟨5, _⟩ => ⟨S1x1, .f32⟩
  | .hbm, ⟨6, _⟩ => ⟨S18432x1024, .i8⟩
  | .hbm, ⟨7, _⟩ => ⟨S24x768, .f32⟩
  | .local _ .vmem, ⟨0, _⟩ => ⟨S24x768x1024, .bf16⟩
  | .local _ .vmem, ⟨1, _⟩ => ⟨S1024x2816, .f32⟩
  | .local _ .vmem, ⟨2, _⟩ => ⟨S1024, .f32⟩
  | .local _ .vmem, ⟨3, _⟩ => ⟨S18432x2816, .bf16⟩
  | .local _ .vmem, ⟨4, _⟩ => ⟨S1024x2816, .i8⟩
  | .local _ .vmem, ⟨5, _⟩ => ⟨S1x1, .f32⟩
  | .local _ .vmem, ⟨6, _⟩ => ⟨S18432x1024, .i8⟩
  | .local _ .vmem, ⟨7, _⟩ => ⟨S24x768, .f32⟩
  | _, _ => ⟨S24x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x768x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2816 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Base.lean ====
/- What the hand-written value proof of the kernel shares between its case runs: the branch conditions in
   closed form over the grid points, the staging and scratch memrefs, and the invariant spelled over them. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 36 = 35 :=
  (fun t => by
    have ht : t.val < 36 := Nat.lt_of_lt_of_eq t.isLt N_0
    have e0 : (grid0.coords t 0).val = t.val / 1 % 36 := Pipeline.Grid.coords_val t 0 (by decide) rfl
    simp only [cond0_1, k0_cond2, e0]
    word_cmp
   : ∀ t : Fin grid0.N, cond0_1 (grid0.coords t) ↔ t.val % 36 = 35)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2816 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2816 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x768 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2816 .bf16 := Memref.whole cc0_scratch0
abbrev scM0_1 : Memref sig .tc .vmem S144x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Spec.lean ====
/- What each case of the body leaves in each buffer, as functions of what it found there, and the view lemmas
   that read the run's stores as those functions. -/
module

public import proofs.«01_k».proof.Proof.K.Base
public import Idealize.ShloMosaic.Lib.Pipeline.ValueKit
public import Idealize.ShloMosaic.Lib.WritesUnit
public import Idealize.ShloMosaic.Lib.WholeRead
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, as functions -/

/-- Rows `8k … 8k+7` of the weight. -/
def rows8 (x : Vec F S1024x2816 .f32) (k : ℕ) : Vec F S8x2816 .f32 :=
  fun y => x (ix2 ⟨(8 * k + (y 0).val) % 1024, Nat.mod_lt _ (by decide)⟩ (y 1))

/-- Rows `128k … 128k+127` of the weight. -/
def rows128 (x : Vec F S1024x2816 .f32) (k : ℕ) : Vec F S128x2816 .f32 :=
  fun y => x (ix2 ⟨(128 * k + (y 0).val) % 1024, Nat.mod_lt _ (by decide)⟩ (y 1))

/-- The 8-row accumulator of absolute values after `k` trips of the first loop. -/
def accK (x : Vec F S1024x2816 .f32) : ℕ → FVec F S8x2816 .f32
  | 0 => k0_pay4
  | k + 1 => k0_pay5 (accK x k) (rows8 x k)

/-- The mean absolute value the first grid point stores. -/
def gam (x : Vec F S1024x2816 .f32) : F .f32 := k0_pay6 (accK x 128)

/-- The 1x1 result holding it. -/
def gamV (x : Vec F S1024x2816 .f32) : Vec F S1x1 .f32 := fun _ => gam x

/-- The ternary weight codes as integers. -/
def wqV (x : Vec F S1024x2816 .f32) : Vec F S1024x2816 .i8 :=
  fun y => k0_pay8 (accK x 128) (rows128 x ((y 0).val / 128)) (ix2 ⟨(y 0).val % 128, Nat.mod_lt _ (by decide)⟩ (y 1))

/-- The ternary weight codes as the matrix unit's operand. -/
def wbV (x : Vec F S1024x2816 .f32) : Vec F S1024x2816 .bf16 :=
  fun y => k0_pay9 (accK x 128) (rows128 x ((y 0).val / 128)) (ix2 ⟨(y 0).val % 128, Nat.mod_lt _ (by decide)⟩ (y 1))

/-- The block of `y` a grid point stores, from the scale row vector `x1`, the block `x2`, the mean and the codes. -/
def yV (x1 : Vec F S1x1024 .f32) (x2 : Vec F S512x1024 .bf16) (g : F .f32) (wb : Vec F S1024x2816 .bf16) : Vec F S512x2816 .bf16 :=
  k0_pay3 g (k0_pay11 x2 x1) (k0_pay14 (k0_pay12 x2 x1)) wb

/-- The scratch of scales after grid point `t` wrote its four rows over `s`. -/
def rowsV (t : ℕ) (sc : FVec F S512x1 .f32) (s : Vec F S144x128 .f32) : Vec F S144x128 .f32 := fun y =>
  if (y 0).val = 4 * t + 3 then k0_pay2 sc (ix2 0 (y 1))
  else if (y 0).val = 4 * t + 2 then k0_pay1 (k0_pay17 sc) (ix2 0 (y 1))
  else if (y 0).val = 4 * t + 1 then k0_pay16 sc (ix2 0 (y 1))
  else if (y 0).val = 4 * t then k0_pay15 sc (ix2 0 (y 1))
  else s y

/-- The result of scales the last grid point copies out of the scratch `s`. -/
def xsV (s : Vec F S144x128 .f32) : Vec F S24x768 .f32 := fun y =>
  s (ix2 ⟨(6 * (y 0).val + (y 1).val / 128) % 144, Nat.mod_lt _ (by decide)⟩ ⟨(y 1).val % 128, Nat.mod_lt _ (by decide)⟩)

/-! ## Reading the run's stores -/

section Reads
variable {κ : Kind} {sp : Space}

/-- The four row stores of a grid point, read back: the scratch is `rowsV`. -/
theorem read_rows {M : Memref sig κ sp S144x128 .f32} (h : M.IsWhole) (i : grid0.Coords) (s : Vec F S144x128 .f32)
    (sc : FVec F S512x1 .f32) (h0 h1 h2 h3) :
    M.view.read (Elt F) (M.view.writes (Elt F) (h.unread s)
      [⟨Rect.unit (k0_off3 i 3#32) ![1, 128] h3, k0_pay2 sc⟩,
       ⟨Rect.unit (k0_off3 i 2#32) ![1, 128] h2, k0_pay1 (k0_pay17 sc)⟩,
       ⟨Rect.unit (k0_off3 i 1#32) ![1, 128] h1, k0_pay16 sc⟩,
       ⟨Rect.unit (k0_off3 i 0#32) ![1, 128] h0, k0_pay15 sc⟩]) = rowsV (i 0).val sc s := by
  funext y
  have e3 : k0_off3 i 3#32 = ![4 * (i 0).val + 3, 0] := k0_off3_eq i ⟨3, by decide⟩
  have e2 : k0_off3 i 2#32 = ![4 * (i 0).val + 2, 0] := k0_off3_eq i ⟨2, by decide⟩
  have e1 : k0_off3 i 1#32 = ![4 * (i 0).val + 1, 0] := k0_off3_eq i ⟨1, by decide⟩
  have e0 : k0_off3 i 0#32 = ![4 * (i 0).val, 0] := k0_off3_eq i ⟨0, by decide⟩
  unfold rowsV
  by_cases c3 : (y 0).val = 4 * (i 0).val + 3
  · rw [if_pos c3]
    exact View.read_writes_cons_rows_of_mem (d := ![144, 128]) _ _ _ _ _ y (ix2 0 (y 1)) e3 (by rw [c3]; rfl) rfl
  rw [if_neg c3]
  refine (View.read_writes_cons_rows_of_not_mem (d := ![144, 128]) (W := 1) _ _ _ _ _ y e3 rfl (by omega)).trans ?_
  by_cases c2 : (y 0).val = 4 * (i 0).val + 2
  · rw [if_pos c2]
    exact View.read_writes_cons_rows_of_mem (d := ![144, 128]) _ _ _ _ _ y (ix2 0 (y 1)) e2 (by rw [c2]; rfl) rfl
  rw [if_neg c2]
  refine (View.read_writes_cons_rows_of_not_mem (d := ![144, 128]) (W := 1) _ _ _ _ _ y e2 rfl (by omega)).trans ?_
  by_cases c1 : (y 0).val = 4 * (i 0).val + 1
  · rw [if_pos c1]
    exact View.read_writes_cons_rows_of_mem (d := ![144, 128]) _ _ _ _ _ y (ix2 0 (y 1)) e1 (by rw [c1]; rfl) rfl
  rw [if_neg c1]
  refine (View.read_writes_cons_rows_of_not_mem (d := ![144, 128]) (W := 1) _ _ _ _ _ y e1 rfl (by omega)).trans ?_
  by_cases c0 : (y 0).val = 4 * (i 0).val
  · rw [if_pos c0]
    exact View.read_writes_cons_rows_of_mem (d := ![144, 128]) _ _ _ _ _ y (ix2 0 (y 1)) e0 (by rw [c0]; rfl) rfl
  rw [if_neg c0]
  refine (View.read_writes_cons_rows_of_not_mem (d := ![144, 128]) (W := 1) _ _ _ _ _ y e0 rfl (by omega)).trans ?_
  exact congrFun (h.read_unread s) y

/-- One strided read of the scratch, at an index: row `6b + c`. -/
theorem strided_apply (M : Memref sig κ sp S144x128 .f32) (f : BufTy.Contents (Elt F) M.view.ty) (o : ℕ)
    (h) (x : S24x128.Idx) (y : S24x768.Idx) (h0 : (y 0).val = (x 0).val)
    (h1 : (y 1).val = 128 * o + (x 1).val) :
    M.view.readAt (Elt F) (⟨![o, 0], S24x128.size, ![6, 1], h⟩ : LoadRect S144x128) f x = xsV (M.view.read (Elt F) f) y := by
  have hx0 : (x 0).val < 24 := (x 0).isLt
  have hx1 : (x 1).val < 128 := (x 1).isLt
  have hy1 : (y 1).val < 768 := (y 1).isLt
  rw [View.readAt_apply]
  refine congrArg (M.view.read (Elt F) f) (funext fun a => Fin.ext ?_)
  match a with
  | ⟨0, _⟩ =>
    show o + 6 * (x 0).val = (6 * (y 0).val + (y 1).val / 128) % 144
    rw [h0, h1]; omega
  | ⟨1, _⟩ =>
    show 0 + 1 * (x 1).val = (y 1).val % 128
    rw [h1]; omega

/-- The six column blocks of the last grid point, read back. -/
theorem read_xs (M8 : Memref sig κ sp S24x768 .f32) (M : Memref sig κ sp S144x128 .f32) (f8 : BufTy.Contents (Elt F) M8.view.ty)
    (f : BufTy.Contents (Elt F) M.view.ty) (i0 i1 i2 i3 i4 i5 h0 h1 h2 h3 h4 h5) :
    M8.view.read (Elt F) (M8.view.writes (Elt F) f8
      [⟨Rect.unit ![0, 640] S24x128.size i5, M.view.readAt (Elt F) (⟨![5, 0], S24x128.size, ![6, 1], h5⟩ : LoadRect S144x128) f⟩,
       ⟨Rect.unit ![0, 512] S24x128.size i4, M.view.readAt (Elt F) (⟨![4, 0], S24x128.size, ![6, 1], h4⟩ : LoadRect S144x128) f⟩,
       ⟨Rect.unit ![0, 384] S24x128.size i3, M.view.readAt (Elt F) (⟨![3, 0], S24x128.size, ![6, 1], h3⟩ : LoadRect S144x128) f⟩,
       ⟨Rect.unit ![0, 256] S24x128.size i2, M.view.readAt (Elt F) (⟨![2, 0], S24x128.size, ![6, 1], h2⟩ : LoadRect S144x128) f⟩,
       ⟨Rect.unit ![0, 128] S24x128.size i1, M.view.readAt (Elt F) (⟨![1, 0], S24x128.size, ![6, 1], h1⟩ : LoadRect S144x128) f⟩,
       ⟨Rect.unit ![0, 0] S24x128.size i0, M.view.readAt (Elt F) (⟨![0, 0], S24x128.size, ![6, 1], h0⟩ : LoadRect S144x128) f⟩])
      = xsV (M.view.read (Elt F) f) := by
  funext y
  have hy1 : (y 1).val < 768 := (y 1).isLt
  by_cases c5 : 640 ≤ (y 1).val
  · refine (View.read_writes_cons_unit_of_mem _ _ _ _ _ y (ix2 (y 0) ⟨(y 1).val - 640, by omega⟩ : S24x128.Idx) rfl
      (Fin.forall_fin_two.mpr ⟨by show (y 0).val = 0 + (y 0).val; omega, by show (y 1).val = 640 + ((y 1).val - 640); omega⟩)).trans ?_
    exact strided_apply M f 5 _ _ y rfl (by show (y 1).val = 128 * 5 + ((y 1).val - 640); omega)
  refine (View.read_writes_cons_unit_of_not_mem _ _ _ _ _ y rfl (1 : Fin 2) (.inl (by show (y 1).val < 640; omega))).trans ?_
  by_cases c4 : 512 ≤ (y 1).val
  · refine (View.read_writes_cons_unit_of_mem _ _ _ _ _ y (ix2 (y 0) ⟨(y 1).val - 512, by omega⟩ : S24x128.Idx) rfl
      (Fin.forall_fin_two.mpr ⟨by show (y 0).val = 0 + (y 0).val; omega, by show (y 1).val = 512 + ((y 1).val - 512); omega⟩)).trans ?_
    exact strided_apply M f 4 _ _ y rfl (by show (y 1).val = 128 * 4 + ((y 1).val - 512); omega)
  refine (View.read_writes_cons_unit_of_not_mem _ _ _ _ _ y rfl (1 : Fin 2) (.inl (by show (y 1).val < 512; omega))).trans ?_
  by_cases c3 : 384 ≤ (y 1).val
  · refine (View.read_writes_cons_unit_of_mem _ _ _ _ _ y (ix2 (y 0) ⟨(y 1).val - 384, by omega⟩ : S24x128.Idx) rfl
      (Fin.forall_fin_two.mpr ⟨by show (y 0).val = 0 + (y 0).val; omega, by show (y 1).val = 384 + ((y 1).val - 384); omega⟩)).trans ?_
    exact strided_apply M f 3 _ _ y rfl (by show (y 1).val = 128 * 3 + ((y 1).val - 384); omega)
  refine (View.read_writes_cons_unit_of_not_mem _ _ _ _ _ y rfl (1 : Fin 2) (.inl (by show (y 1).val < 384; omega))).trans ?_
  by_cases c2 : 256 ≤ (y 1).val
  · refine (View.read_writes_cons_unit_of_mem _ _ _ _ _ y (ix2 (y 0) ⟨(y 1).val - 256, by omega⟩ : S24x128.Idx) rfl
      (Fin.forall_fin_two.mpr ⟨by show (y 0).val = 0 + (y 0).val; omega, by show (y 1).val = 256 + ((y 1).val - 256); omega⟩)).trans ?_
    exact strided_apply M f 2 _ _ y rfl (by show (y 1).val = 128 * 2 + ((y 1).val - 256); omega)
  refine (View.read_writes_cons_unit_of_not_mem _ _ _ _ _ y rfl (1 : Fin 2) (.inl (by show (y 1).val < 256; omega))).trans ?_
  by_cases c1 : 128 ≤ (y 1).val
  · refine (View.read_writes_cons_unit_of_mem _ _ _ _ _ y (ix2 (y 0) ⟨(y 1).val - 128, by omega⟩ : S24x128.Idx) rfl
      (Fin.forall_fin_two.mpr ⟨by show (y 0).val = 0 + (y 0).val; omega, by show (y 1).val = 128 + ((y 1).val - 128); omega⟩)).trans ?_
    exact strided_apply M f 1 _ _ y rfl (by show (y 1).val = 128 * 1 + ((y 1).val - 128); omega)
  refine (View.read_writes_cons_unit_of_not_mem _ _ _ _ _ y rfl (1 : Fin 2) (.inl (by show (y 1).val < 128; omega))).trans ?_
  refine (View.read_writes_cons_unit_of_mem _ _ _ _ _ y (ix2 (y 0) ⟨(y 1).val, by omega⟩ : S24x128.Idx) rfl
      (Fin.forall_fin_two.mpr ⟨by show (y 0).val = 0 + (y 0).val; omega, by show (y 1).val = 0 + (y 1).val; omega⟩)).trans ?_
  exact strided_apply M f 0 _ _ y rfl (by show (y 1).val = 128 * 0 + (y 1).val; omega)
end Reads

end Cert.Kernel.Hand
-- ==== Proof.K.RunB.lean ====
/- The body's run at a middle grid point, every buffer's contents named. -/
module

public import proofs.«01_k».proof.Proof.K.Spec

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle grid point the body computes the block of `y`, its activation codes and four rows of scales. -/
theorem runB (c : Dev nD) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc0 : ¬cond0_0 i) (hc1 : ¬cond0_1 i)
    (x0 : Vec F S1024x2816 .f32) (x1 : Vec F S1x1024 .f32) (x2 : Vec F S512x1024 .bf16) (g6 : Vec F S1x1 .f32) (wb : Vec F S1024x2816 .bf16) (s : Vec F S144x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg6 fullShare g6 ∗ (∃ d, owns (c : Thread nD τ) arg7 fullShare d) ∗ owns (c : Thread nD τ) arg9 fullShare wb ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare (yV x1 x2 (g6 (ix2 0 0)) wb) ∗ owns (c : Thread nD τ) arg6 fullShare g6 ∗ owns (c : Thread nD τ) arg7 fullShare (k0_pay13 x2 x1) ∗ owns (c : Thread nD τ) arg9 fullShare wb ∗ owns (c : Thread nD τ) arg10 fullShare (rowsV (i 0).val (k0_pay11 x2 x1) s)) -∗ K ⟨⟩))
          ⊢ wp frame (wpE (defs₀ (F := F)) Variants.none c none) E (cc0_bitlinear i arg1 harg1 arg2 harg2 arg3 harg3 arg4 harg4 arg5 harg5 arg6 harg6 arg7 harg7 arg8 harg8 arg9 harg9 arg10 harg10) K := by
    intro E K
    simp only [cc0_bitlinear_eq_skeleton]; unfold cc0_bitlinear_skel
    simp only [k0_part1_eq_skeleton, k0_part2_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%d7, %f7, -, H7⟩, ⟨%f9, %hf9, H9⟩, ⟨%f10, %hf10, H10⟩, Hk⟩
    obtain rfl := harg1.eq_unread hf1; obtain rfl := harg2.eq_unread hf2; obtain rfl := harg3.eq_unread hf3; obtain rfl := harg6.eq_unread hf6; obtain rfl := harg9.eq_unread hf9; obtain rfl := harg10.eq_unread hf10
    sl_exec (disch := first | sl_exact hc0 | sl_exact hc1)
    sl_step
    have hg2 : View.readAt (Elt F) arg2.view (Rect.unit ![0, 0] S1x1024.size inb_S1x1024_S1x1024_0_0).toLoadRect (harg2.unread x1) = x1 := (View.readAt_full _ _ _).trans (harg2.read_unread _)
    have hg3 : View.readAt (Elt F) arg3.view (Rect.unit ![0, 0] S512x1024.size inb_S512x1024_S512x1024_0_0).toLoadRect (harg3.unread x2) = x2 := (View.readAt_full _ _ _).trans (harg3.read_unread _)
    have hg9 : View.readAt (Elt F) arg9.view (Rect.unit ![0, 0] ![1024, 2816] inb_S1024x2816_S1024x2816_0_0).toLoadRect (harg9.unread wb) = wb := (View.readAt_full _ _ _).trans (harg9.read_unread _)
    have hg6 : View.readAt (Elt F) arg6.view (Rect.unit ![0, 0] S1x1.size inb_S1x1_S1x1_0_0).toLoadRect (harg6.unread g6) (Shape.Idx.first (by decide)) = g6 (ix2 0 0) := by
      rw [View.readAt_full, harg6.read_unread]; exact congrArg g6 (funext fun a => Fin.ext (by have := (Shape.Idx.first (s := S1x1) (by decide) a).isLt; fin_cases a <;> rfl))
    sl_unfold_run_names
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact (View.read_writes_full _ _ _ _ _).trans (by rw [hg2, hg3, hg9, hg6]; rfl)
    isplitl [H6]
    · iexists _; isplitr; swap; · iexact H6
      ipureintro; exact harg6.read_unread _
    isplitl [H7]
    · iexists _; isplitr; swap; · iexact H7
      ipureintro; exact (View.read_writes_full _ _ _ _ _).trans (by rw [hg2, hg3])
    isplitl [H9]
    · iexists _; isplitr; swap; · iexact H9
      ipureintro; exact harg9.read_unread _
    iexists _; isplitr; swap; · iexact H10
    ipureintro; exact by rw [hg2, hg3]; exact read_rows harg10 i s _ _ _ _ _

end Cert.Kernel.Hand
-- ==== Proof.K.RunC.lean ====
/- The body's run at the last grid point, every buffer's contents named. -/
module

public import proofs.«01_k».proof.Proof.K.RunB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last grid point the body also copies the scratch of scales to its result. -/
theorem runC (c : Dev nD) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc0 : ¬cond0_0 i) (hc1 : cond0_1 i)
    (x0 : Vec F S1024x2816 .f32) (x1 : Vec F S1x1024 .f32) (x2 : Vec F S512x1024 .bf16) (g6 : Vec F S1x1 .f32) (wb : Vec F S1024x2816 .bf16) (s : Vec F S144x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg6 fullShare g6 ∗ (∃ d, owns (c : Thread nD τ) arg7 fullShare d) ∗ (∃ d, owns (c : Thread nD τ) arg8 fullShare d) ∗ owns (c : Thread nD τ) arg9 fullShare wb ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare (yV x1 x2 (g6 (ix2 0 0)) wb) ∗ owns (c : Thread nD τ) arg6 fullShare g6 ∗ owns (c : Thread nD τ) arg7 fullShare (k0_pay13 x2 x1) ∗ owns (c : Thread nD τ) arg8 fullShare (xsV (rowsV (i 0).val (k0_pay11 x2 x1) s)) ∗ owns (c : Thread nD τ) arg9 fullShare wb ∗ owns (c : Thread nD τ) arg10 fullShare (rowsV (i 0).val (k0_pay11 x2 x1) s)) -∗ K ⟨⟩))
          ⊢ wp frame (wpE (defs₀ (F := F)) Variants.none c none) E (cc0_bitlinear i arg1 harg1 arg2 harg2 arg3 harg3 arg4 harg4 arg5 harg5 arg6 harg6 arg7 harg7 arg8 harg8 arg9 harg9 arg10 harg10) K := by
    intro E K
    simp only [cc0_bitlinear_eq_skeleton]; unfold cc0_bitlinear_skel
    simp only [k0_part1_eq_skeleton, k0_part2_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg6.eq_unread hf6; obtain rfl := harg9.eq_unread hf9; obtain rfl := harg10.eq_unread hf10
    sl_exec (disch := first | sl_exact hc0 | sl_exact hc1)
    sl_step
    have hg2 : View.readAt (Elt F) arg2.view (Rect.unit ![0, 0] S1x1024.size inb_S1x1024_S1x1024_0_0).toLoadRect (harg2.unread x1) = x1 := (View.readAt_full _ _ _).trans (harg2.read_unread _)
    have hg3 : View.readAt (Elt F) arg3.view (Rect.unit ![0, 0] S512x1024.size inb_S512x1024_S512x1024_0_0).toLoadRect (harg3.unread x2) = x2 := (View.readAt_full _ _ _).trans (harg3.read_unread _)
    have hg9 : View.readAt (Elt F) arg9.view (Rect.unit ![0, 0] ![1024, 2816] inb_S1024x2816_S1024x2816_0_0).toLoadRect (harg9.unread wb) = wb := (View.readAt_full _ _ _).trans (harg9.read_unread _)
    have hg6 : View.readAt (Elt F) arg6.view (Rect.unit ![0, 0] S1x1.size inb_S1x1_S1x1_0_0).toLoadRect (harg6.unread g6) (Shape.Idx.first (by decide)) = g6 (ix2 0 0) := by
      rw [View.readAt_full, harg6.read_unread]; exact congrArg g6 (funext fun a => Fin.ext (by have := (Shape.Idx.first (s := S1x1) (by decide) a).isLt; fin_cases a <;> rfl))
    sl_unfold_run_names
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact (View.read_writes_full _ _ _ _ _).trans (by rw [hg2, hg3, hg9, hg6]; rfl)
    isplitl [H6]
    · iexists _; isplitr; swap; · iexact H6
      ipureintro; exact harg6.read_unread _
    isplitl [H7]
    · iexists _; isplitr; swap; · iexact H7
      ipureintro; exact (View.read_writes_full _ _ _ _ _).trans (by rw [hg2, hg3])
    isplitl [H8]
    · iexists _; isplitr; swap; · iexact H8
      ipureintro; exact (read_xs _ _ _ _ _ _ _ _ _ _ _ _ _ _ _ _).trans (by rw [hg2, hg3]; exact congrArg xsV (read_rows harg10 i s _ _ _ _ _))
    isplitl [H9]
    · iexists _; isplitr; swap; · iexact H9
      ipureintro; exact harg9.read_unread _
    iexists _; isplitr; swap; · iexact H10
    ipureintro; exact by rw [hg2, hg3]; exact read_rows harg10 i s _ _ _ _ _

end Cert.Kernel.Hand
-- ==== Proof.K.LoopsA.lean ====
/- The two counted loops of the first grid point in closed form: the accumulator after each trip, and the rows of
   codes the trips so far have stored. -/
module

public import proofs.«01_k».proof.Proof.K.RunC

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of 8 whole rows of the weight. -/
theorem ld_rows8 {κ : Kind} {sp : Space} {M : Memref sig κ sp S1024x2816 .f32} (h : M.IsWhole) (x0 : Vec F S1024x2816 .f32)
    (k : Fin k0_t1_loop.trips) (hb) :
    M.view.readAt (Elt F) (Rect.unit (s := S1024x2816) (k0_off1 k) S8x2816.size hb).toLoadRect (h.unread x0) = rows8 x0 k.val := by
  funext x
  have hk : k.val < 128 := Nat.lt_of_lt_of_le k.isLt k0_t1_abs.2.1
  have hx : (x 0).val < 8 := (x 0).isLt
  rw [h.readAt_unread]
  refine congrArg x0 (funext fun a => Fin.ext ?_)
  have e0 : k0_off1 k 0 = 8 * k.val := congrFun (k0_off1_eq k) 0
  have e1 : k0_off1 k 1 = 0 := congrFun (k0_off1_eq k) 1
  match a with
  | ⟨0, _⟩ =>
    show k0_off1 k 0 + 1 * (x 0).val = (8 * k.val + (x 0).val) % 1024
    omega
  | ⟨1, _⟩ =>
    show k0_off1 k 1 + 1 * (x 1).val = (x 1).val
    omega

/-- A load of 128 whole rows of the weight. -/
theorem ld_rows128 {κ : Kind} {sp : Space} {M : Memref sig κ sp S1024x2816 .f32} (h : M.IsWhole) (x0 : Vec F S1024x2816 .f32)
    (k : Fin k0_t2_loop.trips) (hb) :
    M.view.readAt (Elt F) (Rect.unit (s := S1024x2816) (k0_off2 k) S128x2816.size hb).toLoadRect (h.unread x0) = rows128 x0 k.val := by
  funext x
  have hk : k.val < 8 := Nat.lt_of_lt_of_le k.isLt k0_t2_abs.2.1
  have hx : (x 0).val < 128 := (x 0).isLt
  rw [h.readAt_unread]
  refine congrArg x0 (funext fun a => Fin.ext ?_)
  have e0 : k0_off2 k 0 = 128 * k.val := congrFun (k0_off2_eq k) 0
  have e1 : k0_off2 k 1 = 0 := congrFun (k0_off2_eq k) 1
  match a with
  | ⟨0, _⟩ =>
    show k0_off2 k 0 + 1 * (x 0).val = (128 * k.val + (x 0).val) % 1024
    omega
  | ⟨1, _⟩ =>
    show k0_off2 k 1 + 1 * (x 1).val = (x 1).val
    omega

/-- The carried accumulator before trip `k` of the first loop. -/
theorem st_eq (𝒱 : Variants) (c : Dev nD) (bd : Option 𝒱.V) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc : k0_cond1 i = 1#1) (x0 : Vec F S1024x2816 .f32) : ∀ k : ℕ, k ≤ k0_t1_loop.trips →
    st_k0_t1 (F := F) 𝒱 c bd i arg1 harg1 arg2 harg2 arg3 harg3 arg4 harg4 arg5 harg5 arg6 harg6 arg7 harg7 arg8 harg8 arg9 harg9 arg10 harg10 hc (harg1.unread x0) k0_pay4 k = accK x0 k
  | 0, _ => rfl
  | k + 1, hk => by
    rw [st_k0_t1_succ 𝒱 c bd i arg1 harg1 arg2 harg2 arg3 harg3 arg4 harg4 arg5 harg5 arg6 harg6 arg7 harg7 arg8 harg8 arg9 harg9 arg10 harg10 hc (harg1.unread x0) k0_pay4 ⟨k, hk⟩, st_eq 𝒱 c bd i arg1 harg1 arg2 harg2 arg3 harg3 arg4 harg4 arg5 harg5 arg6 harg6 arg7 harg7 arg8 harg8 arg9 harg9 arg10 harg10 hc x0 k (Nat.le_of_succ_le hk)]
    unfold tripR_k0_t1 trip_k0_t1
    show k0_pay5 (accK x0 k) _ = k0_pay5 (accK x0 k) _
    exact congrArg _ (ld_rows8 harg1 x0 ⟨k, hk⟩ _)

/-- The rows of integer codes stored before trip `k` of the second loop. -/
theorem wq_eq (𝒱 : Variants) (c : Dev nD) (bd : Option 𝒱.V) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc : k0_cond1 i = 1#1) (x0 : Vec F S1024x2816 .f32) (G : BufTy.Contents (Elt F) arg5.view.ty) : ∀ k : ℕ, k ≤ k0_t2_loop.trips →
    ∀ y : S1024x2816.Idx, (y 0).val < 128 * k →
    arg5.view.read (Elt F) (arg5.view.writes (Elt F) G (pb_k0_t2 (F := F) 𝒱 c bd i arg1 harg1 arg2 harg2 arg3 harg3 arg4 harg4 arg5 harg5 arg6 harg6 arg7 harg7 arg8 harg8 arg9 harg9 arg10 harg10 hc (accK x0 128) (harg1.unread x0) k).1) y = wqV x0 y
  | 0, _, y, hy => by omega
  | k + 1, hk, y, hy => by
    rw [pb_k0_t2_succ 𝒱 c bd i arg1 harg1 arg2 harg2 arg3 harg3 arg4 harg4 arg5 harg5 arg6 harg6 arg7 harg7 arg8 harg8 arg9 harg9 arg10 harg10 hc (accK x0 128) (harg1.unread x0) ⟨k, hk⟩]
    unfold tripL_k0_t2 trip_k0_t2
    dsimp only [List.cons_append, List.nil_append]
    by_cases hc2 : 128 * k ≤ (y 0).val
    · refine (View.read_writes_cons_rows_of_mem (d := ![1024, 2816]) _ _ _ _ _ y (ix2 ⟨(y 0).val % 128, Nat.mod_lt _ (by decide)⟩ (y 1) : S128x2816.Idx) (k0_off2_eq ⟨k, hk⟩)
        (by show (y 0).val = 128 * k + (y 0).val % 128; omega) rfl).trans ?_
      have e : (y 0).val / 128 = k := by omega
      unfold wqV; rw [e]
      exact congrFun (congrArg _ (ld_rows128 harg1 x0 ⟨k, hk⟩ _)) _
    · refine (View.read_writes_cons_rows_of_not_mem (d := ![1024, 2816]) (W := 128) _ _ _ _ _ y (k0_off2_eq ⟨k, hk⟩) rfl (.inl (by show (y 0).val < 128 * k; omega))).trans ?_
      exact wq_eq 𝒱 c bd i arg1 harg1 arg2 harg2 arg3 harg3 arg4 harg4 arg5 harg5 arg6 harg6 arg7 harg7 arg8 harg8 arg9 harg9 arg10 harg10 hc x0 G k (Nat.le_of_succ_le hk) y (by omega)

/-- The rows of matrix-unit codes stored before trip `k` of the second loop. -/
theorem wb_eq (𝒱 : Variants) (c : Dev nD) (bd : Option 𝒱.V) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc : k0_cond1 i = 1#1) (x0 : Vec F S1024x2816 .f32) (G : BufTy.Contents (Elt F) arg9.view.ty) : ∀ k : ℕ, k ≤ k0_t2_loop.trips →
    ∀ y : S1024x2816.Idx, (y 0).val < 128 * k →
    arg9.view.read (Elt F) (arg9.view.writes (Elt F) G (pb_k0_t2 (F := F) 𝒱 c bd i arg1 harg1 arg2 harg2 arg3 harg3 arg4 harg4 arg5 harg5 arg6 harg6 arg7 harg7 arg8 harg8 arg9 harg9 arg10 harg10 hc (accK x0 128) (harg1.unread x0) k).2) y = wbV x0 y
  | 0, _, y, hy => by omega
  | k + 1, hk, y, hy => by
    rw [pb_k0_t2_succ 𝒱 c bd i arg1 harg1 arg2 harg2 arg3 harg3 arg4 harg4 arg5 harg5 arg6 harg6 arg7 harg7 arg8 harg8 arg9 harg9 arg10 harg10 hc (accK x0 128) (harg1.unread x0) ⟨k, hk⟩]
    unfold tripL_k0_t2 trip_k0_t2
    dsimp only [List.cons_append, List.nil_append]
    by_cases hc2 : 128 * k ≤ (y 0).val
    · refine (View.read_writes_cons_rows_of_mem (d := ![1024, 2816]) _ _ _ _ _ y (ix2 ⟨(y 0).val % 128, Nat.mod_lt _ (by decide)⟩ (y 1) : S128x2816.Idx) (k0_off2_eq ⟨k, hk⟩)
        (by show (y 0).val = 128 * k + (y 0).val % 128; omega) rfl).trans ?_
      have e : (y 0).val / 128 = k := by omega
      unfold wbV; rw [e]
      exact congrFun (congrArg _ (ld_rows128 harg1 x0 ⟨k, hk⟩ _)) _
    · refine (View.read_writes_cons_rows_of_not_mem (d := ![1024, 2816]) (W := 128) _ _ _ _ _ y (k0_off2_eq ⟨k, hk⟩) rfl (.inl (by show (y 0).val < 128 * k; omega))).trans ?_
      exact wb_eq 𝒱 c bd i arg1 harg1 arg2 harg2 arg3 harg3 arg4 harg4 arg5 harg5 arg6 harg6 arg7 harg7 arg8 harg8 arg9 harg9 arg10 harg10 hc x0 G k (Nat.le_of_succ_le hk) y (by omega)

end Cert.Kernel.Hand
-- ==== Proof.K.RunA.lean ====
/- The body's run at the first grid point, every buffer's contents named. -/
module

public import proofs.«01_k».proof.Proof.K.LoopsA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first grid point the body computes the mean, the codes, the block of `y`, its activation codes and four rows of scales. -/
theorem runA (c : Dev nD) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc0 : cond0_0 i) (hc1 : ¬cond0_1 i)
    (x0 : Vec F S1024x2816 .f32) (x1 : Vec F S1x1024 .f32) (x2 : Vec F S512x1024 .bf16) (s : Vec F S144x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg9 fullShare d) ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare (yV x1 x2 (gam x0) (wbV x0)) ∗ owns (c : Thread nD τ) arg5 fullShare (wqV x0) ∗ owns (c : Thread nD τ) arg6 fullShare (gamV x0) ∗ owns (c : Thread nD τ) arg7 fullShare (k0_pay13 x2 x1) ∗ owns (c : Thread nD τ) arg9 fullShare (wbV x0) ∗ owns (c : Thread nD τ) arg10 fullShare (rowsV (i 0).val (k0_pay11 x2 x1) s)) -∗ K ⟨⟩))
          ⊢ wp frame (wpE (defs₀ (F := F)) Variants.none c none) E (cc0_bitlinear i arg1 harg1 arg2 harg2 arg3 harg3 arg4 harg4 arg5 harg5 arg6 harg6 arg7 harg7 arg8 harg8 arg9 harg9 arg10 harg10) K := by
    intro E K
    simp only [cc0_bitlinear_eq_skeleton]; unfold cc0_bitlinear_skel
    simp only [k0_part1_eq_skeleton, k0_part2_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d9, %f9, -, H9⟩, ⟨%f10, %hf10, H10⟩, Hk⟩
    obtain rfl := harg1.eq_unread hf1; obtain rfl := harg2.eq_unread hf2; obtain rfl := harg3.eq_unread hf3; obtain rfl := harg10.eq_unread hf10
    sl_exec (disch := first | sl_exact hc0 | sl_exact hc1)
    sl_step
    have hg2 : View.readAt (Elt F) arg2.view (Rect.unit ![0, 0] S1x1024.size inb_S1x1024_S1x1024_0_0).toLoadRect (harg2.unread x1) = x1 := (View.readAt_full _ _ _).trans (harg2.read_unread _)
    have hg3 : View.readAt (Elt F) arg3.view (Rect.unit ![0, 0] S512x1024.size inb_S512x1024_S512x1024_0_0).toLoadRect (harg3.unread x2) = x2 := (View.readAt_full _ _ _).trans (harg3.read_unread _)
    sl_unfold_run_names
    have hst : st_k0_t1 (F := F) Variants.none c none i arg1 harg1 arg2 harg2 arg3 harg3 arg4 harg4 arg5 harg5 arg6 harg6 arg7 harg7 arg8 harg8 arg9 harg9 arg10 harg10 hc0 (harg1.unread x0) k0_pay4 (Scf.trips k0_t1_loop.lb k0_t1_loop.ub k0_t1_loop.st) = accK x0 128 :=
      (st_eq Variants.none c none i arg1 harg1 arg2 harg2 arg3 harg3 arg4 harg4 arg5 harg5 arg6 harg6 arg7 harg7 arg8 harg8 arg9 harg9 arg10 harg10 hc0 x0 _ (Nat.le_refl _)).trans (congrArg (accK x0) (by decide +kernel))
    have ht2 : Scf.trips k0_t2_loop.lb k0_t2_loop.ub k0_t2_loop.st = 8 := by decide +kernel
    have hle : Scf.trips k0_t2_loop.lb k0_t2_loop.ub k0_t2_loop.st ≤ k0_t2_loop.trips := Nat.le_refl _
    have hw9 : arg9.view.read (Elt F) (arg9.view.writes (Elt F) f9 (pb_k0_t2 (F := F) Variants.none c none i arg1 harg1 arg2 harg2 arg3 harg3 arg4 harg4 arg5 harg5 arg6 harg6 arg7 harg7 arg8 harg8 arg9 harg9 arg10 harg10 hc0 (accK x0 128) (harg1.unread x0) (Scf.trips k0_t2_loop.lb k0_t2_loop.ub k0_t2_loop.st)).2) = wbV x0 :=
      funext fun y => wb_eq Variants.none c none i arg1 harg1 arg2 harg2 arg3 harg3 arg4 harg4 arg5 harg5 arg6 harg6 arg7 harg7 arg8 harg8 arg9 harg9 arg10 harg10 hc0 x0 f9 _ hle y (by have := (y 0).isLt; rw [ht2]; exact this)
    have hw5 : arg5.view.read (Elt F) (arg5.view.writes (Elt F) f5 (pb_k0_t2 (F := F) Variants.none c none i arg1 harg1 arg2 harg2 arg3 harg3 arg4 harg4 arg5 harg5 arg6 harg6 arg7 harg7 arg8 harg8 arg9 harg9 arg10 harg10 hc0 (accK x0 128) (harg1.unread x0) (Scf.trips k0_t2_loop.lb k0_t2_loop.ub k0_t2_loop.st)).1) = wqV x0 :=
      funext fun y => wq_eq Variants.none c none i arg1 harg1 arg2 harg2 arg3 harg3 arg4 harg4 arg5 harg5 arg6 harg6 arg7 harg7 arg8 harg8 arg9 harg9 arg10 harg10 hc0 x0 f5 _ hle y (by have := (y 0).isLt; rw [ht2]; exact this)
    rw [hst]
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact (View.read_writes_full _ _ _ _ _).trans (by rw [hg2, hg3, View.readAt_full, hw9]; rfl)
    isplitl [H5]
    · iexists _; isplitr; swap; · iexact H5
      ipureintro; exact hw5
    isplitl [H6]
    · iexists _; isplitr; swap; · iexact H6
      ipureintro; exact (View.read_writes_full _ _ _ _ _).trans rfl
    isplitl [H7]
    · iexists _; isplitr; swap; · iexact H7
      ipureintro; exact (View.read_writes_full _ _ _ _ _).trans (by rw [hg2, hg3])
    isplitl [H9]
    · iexists _; isplitr; swap; · iexact H9
      ipureintro; exact hw9
    iexists _; isplitr; swap; · iexact H10
    ipureintro; exact by rw [hg2, hg3]; exact read_rows harg10 i s _ _ _ _ _

end Cert.Kernel.Hand
-- ==== Proof.K.Data.lean ====
/- The proof data of the kernel's pipeline, with every window's contents named, its body obligation and its run. -/
module

public import proofs.«01_k».proof.Proof.K.RunA
public import Idealize.ShloMosaic.Lib.Pipeline.TableIdle

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the pipeline reads, and what it computes from them -/

/-- The first grid point. -/
abbrev t0 : Fin cfg0.N := ⟨0, by decide⟩

/-- The weight, as the region finds it. -/
def Wt (c : Dev nD) : Vec F S1024x2816 .f32 := iblk m c 0 t0

/-- The vector of activation multipliers, as the region finds it. -/
def Gt (c : Dev nD) : Vec F S1x1024 .f32 := iblk m c 1 t0

/-- The weight window's block is the whole weight at every grid point. -/
theorem iblk_w (c : Dev nD) (t : Fin cfg0.N) : iblk m c 0 t = Wt m c := rfl

/-- The multiplier window's block is the whole vector at every grid point. -/
theorem iblk_g (c : Dev nD) (t : Fin cfg0.N) : iblk m c 1 t = Gt m c := rfl

/-- The activation block of grid point `n`. -/
def Xt (c : Dev nD) (n : ℕ) : Vec F S512x1024 .bf16 := iblk m c 2 ⟨n % 36, Nat.mod_lt _ (by decide)⟩

/-- It is the window's block at every grid point. -/
theorem iblk_x (c : Dev nD) (t : Fin cfg0.N) : iblk m c 2 t = Xt m c t.val := by
  have h : t.val % 36 = t.val := Nat.mod_eq_of_lt (lt_of_lt_of_eq t.isLt (show cfg0.N = 36 from N_0))
  have e : ∀ u : Fin cfg0.N, u = t → (iblk m c 2 t : Vec F S512x1024 .bf16) = iblk m c 2 u := fun u hu => by subst hu; rfl
  exact e ⟨t.val % 36, Nat.mod_lt _ (by decide)⟩ (Fin.ext h)

/-- The column of activation scales of grid point `n`. -/
def Sc (c : Dev nD) (n : ℕ) : FVec F S512x1 .f32 := k0_pay11 (Xt m c n) (Gt m c)

/-- The column spelled over the block. -/
theorem Sc_eq (c : Dev nD) (n : ℕ) : k0_pay11 (Xt m c n) (Gt m c) = Sc m c n := rfl

/-- The scratch of scales once every grid point has run. -/
def scal (c : Dev nD) : Vec F S144x128 .f32 := fun y =>
  rowsV ((y 0).val / 4) (Sc m c ((y 0).val / 4)) (fun _ => Sc m c 0 (ix2 0 0)) y

/-- The scratch of scales before grid point `n`: the rows of the points before it are final. -/
def SInv (c : Dev nD) (n : ℕ) (s : Vec F S144x128 .f32) : Prop := ∀ y : S144x128.Idx, (y 0).val < 4 * n → s y = scal m c y

/-- A grid point extends the final rows by its four. -/
theorem SInv_step (c : Dev nD) (n : ℕ) (s : Vec F S144x128 .f32) (h : SInv m c n s) :
    SInv m c (n + 1) (rowsV n (Sc m c n) s) := fun y hy => by
  by_cases hlt : (y 0).val < 4 * n
  · rw [← h y hlt]; unfold rowsV
    rw [if_neg (by omega), if_neg (by omega), if_neg (by omega), if_neg (by omega)]
  · have e : (y 0).val / 4 = n := by omega
    unfold scal; rw [e]; unfold rowsV
    by_cases c3 : (y 0).val = 4 * n + 3
    · rw [if_pos c3, if_pos c3]
    by_cases c2 : (y 0).val = 4 * n + 2
    · rw [if_neg c3, if_neg c3, if_pos c2, if_pos c2]
    by_cases c1 : (y 0).val = 4 * n + 1
    · rw [if_neg c3, if_neg c3, if_neg c2, if_neg c2, if_pos c1, if_pos c1]
    rw [if_neg c3, if_neg c3, if_neg c2, if_neg c2, if_neg c1, if_neg c1, if_pos (by omega), if_pos (by omega)]

/-- After the last grid point the scratch is final. -/
theorem SInv_last (c : Dev nD) (s : Vec F S144x128 .f32) (h : SInv m c 36 s) : s = scal m c :=
  funext fun y => h y (by have : (y 0).val < 144 := (y 0).isLt; omega)

/-! ## The proof data -/

/-- What the body carries from grid point to grid point: the codes once the first point has run, the final rows of
    scales so far, and the generator register. -/
def Inv (c : Dev nD) (n : ℕ) : sProp 𝕄 :=
  iprop((∃ w, ⌜n ≠ 0 → w = wbV (Wt m c)⌝ ∗ owns (c : Thread nD τ) scM0_0 fullShare w)
    ∗ (∃ s, ⌜SInv m c n s⌝ ∗ owns (c : Thread nD τ) scM0_1 fullShare s) ∗ (∃ r, prngReg c r))

/-- The proof data of the pipeline: the arrays as the region finds them, and each window's contents after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yV (Gt m c) (Xt m c t.val) (gam (Wt m c)) (wbV (Wt m c))
    | ⟨4, _⟩ => wqV (Wt m c)
    | ⟨5, _⟩ => gamV (Wt m c)
    | ⟨6, _⟩ => k0_pay13 (Xt m c t.val) (Gt m c)
    | ⟨7, _⟩ => xsV (scal m c)
  Φ t := Inv m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- Window 0 is left at its block. -/
theorem after0_0 (c : Dev nD) (t : Fin cfg0.N) : (dats m 0 c).after 0 t = iblk m c 0 t := by dsimp only [dats]
/-- Window 1 is left at its block. -/
theorem after0_1 (c : Dev nD) (t : Fin cfg0.N) : (dats m 0 c).after 1 t = iblk m c 1 t := by dsimp only [dats]
/-- Window 2 is left at its block. -/
theorem after0_2 (c : Dev nD) (t : Fin cfg0.N) : (dats m 0 c).after 2 t = iblk m c 2 t := by dsimp only [dats]
/-- Window 3 is left at the block of `y`. -/
theorem after0_3 (c : Dev nD) (t : Fin cfg0.N) : (dats m 0 c).after 3 t = yV (Gt m c) (Xt m c t.val) (gam (Wt m c)) (wbV (Wt m c)) := by dsimp only [dats]
/-- Window 4 is left at the weight codes. -/
theorem after0_4 (c : Dev nD) (t : Fin cfg0.N) : (dats m 0 c).after 4 t = wqV (Wt m c) := by dsimp only [dats]
/-- Window 5 is left at the mean. -/
theorem after0_5 (c : Dev nD) (t : Fin cfg0.N) : (dats m 0 c).after 5 t = gamV (Wt m c) := by dsimp only [dats]
/-- Window 6 is left at the block of activation codes. -/
theorem after0_6 (c : Dev nD) (t : Fin cfg0.N) : (dats m 0 c).after 6 t = k0_pay13 (Xt m c t.val) (Gt m c) := by dsimp only [dats]
/-- Window 7 is left at the scales. -/
theorem after0_7 (c : Dev nD) (t : Fin cfg0.N) : (dats m 0 c).after 7 t = xsV (scal m c) := by dsimp only [dats]

/-- The body finds window 0 at its block. -/
theorem before0_0 (c : Dev nD) (t : Fin cfg0.N) (d) : (dats m 0 c).before 0 t d = iblk m c 0 t :=
  before0_0_of m (dats m 0 c) (A_eq m c 0) (after0_0 m c) t d
/-- The body finds window 1 at its block. -/
theorem before0_1 (c : Dev nD) (t : Fin cfg0.N) (d) : (dats m 0 c).before 1 t d = iblk m c 1 t :=
  before0_1_of m (dats m 0 c) (A_eq m c 1) (after0_1 m c) t d
/-- The body finds window 2 at its block. -/
theorem before0_2 (c : Dev nD) (t : Fin cfg0.N) (d) : (dats m 0 c).before 2 t d = iblk m c 2 t :=
  before0_2_of m (dats m 0 c) (A_eq m c 2) (after0_2 m c) t d

/-- Window 4 is idle but at the first point. -/
theorem idle_4 (t : Fin cfg0.N) : cfg0.idle 4 (grid0.coords t) = !(k0_cond1 (grid0.coords t) == 1#1) := rfl
/-- Window 5 is idle but at the first point. -/
theorem idle_5 (t : Fin cfg0.N) : cfg0.idle 5 (grid0.coords t) = !(k0_cond1 (grid0.coords t) == 1#1) := rfl
/-- Window 7 is idle but at the last point. -/
theorem idle_7 (t : Fin cfg0.N) : cfg0.idle 7 (grid0.coords t) = !(k0_cond2 (grid0.coords t) == 1#1) := rfl

/-- A window of the first point's condition is not fresh after the first point. -/
theorem fresh_first (w : Fin cfg0.W) (hi : ∀ t : Fin cfg0.N, cfg0.idle w (grid0.coords t) = !(k0_cond1 (grid0.coords t) == 1#1))
    (hf : ∀ t : Fin cfg0.N, (cfg0.win w).flush t = true ↔ t.val % 36 = 35) (n : ℕ) (h : n < cfg0.N) (hn : n ≠ 0) : cfg0.fresh w n = false := by
  have hN : cfg0.N = 36 := N_0
  induction n with
  | zero => exact absurd rfl hn
  | succ k ih =>
    have hk : k < cfg0.N := Nat.lt_of_succ_lt h
    rw [Pipeline.Cfg.fresh_succ cfg0 w k hk]
    have e1 : (cfg0.win w).flush ⟨k, hk⟩ = false := by
      rw [Bool.eq_false_iff]; intro hh; have h2 : k % 36 = 35 := (hf ⟨k, hk⟩).mp hh; omega
    rw [e1, Bool.false_or]
    by_cases h0 : k = 0
    · have e2 : cfg0.idle w (grid0.coords ⟨k, hk⟩) = false := by
        rw [hi, (hcond0_0 ⟨k, hk⟩).mpr (by show k % 36 = 0; omega)]; rfl
      rw [show cfg0.idle w (cfg0.grid.coords ⟨k, hk⟩) = false from e2, Bool.false_and]
    · rw [ih hk h0, Bool.and_false]

/-- After the first point the body finds window 4 at the weight codes. -/
theorem before0_4 (c : Dev nD) (t : Fin cfg0.N) (ht : t.val ≠ 0) (d) : (dats m 0 c).before 4 t d = wqV (Wt m c) := by
  rw [(dats m 0 c).before_out_traj 4 rfl (fun _ _ => rfl) (fun t _ _ _ => by rw [after0_4, after0_4]) t.val t rfl d,
    fresh_first 4 idle_4 flush0_4 t.val t.isLt ht, if_neg Bool.false_ne_true, after0_4]

/-- After the first point the body finds window 5 at the mean. -/
theorem before0_5 (c : Dev nD) (t : Fin cfg0.N) (ht : t.val ≠ 0) (d) : (dats m 0 c).before 5 t d = gamV (Wt m c) := by
  rw [(dats m 0 c).before_out_traj 5 rfl (fun _ _ => rfl) (fun t _ _ _ => by rw [after0_5, after0_5]) t.val t rfl d,
    fresh_first 5 idle_5 flush0_5 t.val t.isLt ht, if_neg Bool.false_ne_true, after0_5]

/-! ## The body obligation -/

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

attribute [irreducible] Wt Gt Xt Sc scal

set_option maxHeartbeats 400000 in
/-- The body at any grid point: the case its branch conditions select applies, with the invariant's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  have hN : t.val < 36 := lt_of_lt_of_eq t.isLt (show cfg0.N = 36 from N_0)
  have hco : (grid0.coords t 0).val = t.val :=
    (show (grid0.coords t 0).val = t.val / 1 % 36 from Pipeline.Grid.coords_val (G := grid0) t 0 (by decide) rfl).trans (by omega)
  have hsc := Sc_eq m c t.val
  simp only [iblk_w, iblk_g, iblk_x]
  by_cases h0 : t.val % 36 = 0
  · by_cases h1 : t.val % 36 = 35
    · exfalso; omega
    · have hi4 : cfg0.idle 4 (grid0.coords t) = false := by rw [idle_4]; rw [(hcond0_0 t).mpr h0]; rfl
      have hi5 : cfg0.idle 5 (grid0.coords t) = false := by rw [idle_5]; rw [(hcond0_0 t).mpr h0]; rfl
      have hi7 : cfg0.idle 7 (grid0.coords t) = true := by rw [idle_7]; rw [beq_eq_false_iff_ne.mpr (fun h => h1 ((hcond0_1 t).mp h))]; rfl
      have hf4 : (cfg0.win 4).flush t = false := Bool.eq_false_iff.mpr fun h => h1 ((flush0_4 t).mp h)
      have hf5 : (cfg0.win 5).flush t = false := Bool.eq_false_iff.mpr fun h => h1 ((flush0_5 t).mp h)
      have hf7 : (cfg0.win 7).flush t = false := Bool.eq_false_iff.mpr fun h => h1 ((flush0_7 t).mp h)
      rw [show (dats m 0 c).leavesExact 0 t = owns (c : Thread nD τ) (ms0_0 t) fullShare ((dats m 0 c).after 0 t) from by
        unfold Dat.leavesExact; rw [show cfg0.idle 0 (grid0.coords t) = false from rfl], after0_0, iblk_w]
      rw [show (dats m 0 c).leavesExact 1 t = owns (c : Thread nD τ) (ms0_1 t) fullShare ((dats m 0 c).after 1 t) from by
        unfold Dat.leavesExact; rw [show cfg0.idle 1 (grid0.coords t) = false from rfl], after0_1, iblk_g]
      rw [show (dats m 0 c).leavesExact 2 t = owns (c : Thread nD τ) (ms0_2 t) fullShare ((dats m 0 c).after 2 t) from by
        unfold Dat.leavesExact; rw [show cfg0.idle 2 (grid0.coords t) = false from rfl], after0_2, iblk_x]
      rw [show (dats m 0 c).leavesExact 3 t = owns (c : Thread nD τ) (ms0_3 t) fullShare ((dats m 0 c).after 3 t) from by
        unfold Dat.leavesExact; rw [show cfg0.idle 3 (grid0.coords t) = false from rfl], after0_3]
      rw [show (dats m 0 c).leavesExact 6 t = owns (c : Thread nD τ) (ms0_6 t) fullShare ((dats m 0 c).after 6 t) from by
        unfold Dat.leavesExact; rw [show cfg0.idle 6 (grid0.coords t) = false from rfl], after0_6]
      rw [show (dats m 0 c).leavesExact 4 t = owns (c : Thread nD τ) (ms0_4 t) fullShare ((dats m 0 c).after 4 t) from by
        unfold Dat.leavesExact; rw [show cfg0.idle 4 (grid0.coords t) = false from hi4], after0_4]
      rw [show (dats m 0 c).leavesExact 5 t = owns (c : Thread nD τ) (ms0_5 t) fullShare ((dats m 0 c).after 5 t) from by
        unfold Dat.leavesExact; rw [show cfg0.idle 5 (grid0.coords t) = false from hi5], after0_5]
      rw [(dats m 0 c).leavesExact_idle 7 t hi7 hf7]
      iintro ⟨⟨⟨%w, %hw, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ _ _ ((hcond0_0 t).mpr h0) (fun h => h1 ((hcond0_1 t).mp h)) (Wt m c) (Gt m c) (Xt m c t.val) s) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexists _; iexact HS0
      isplitl [HS1]; · iexact HS1
      iintro ⟨H0, H1, H2, H3, H4, H5, H6, HS0, HS1⟩
      isplitl [HS0 HS1 Hg]
      · isplitl [HS0]
        · iexists _; isplitr; swap; · iexact HS0
          ipureintro; exact fun _ => rfl
        isplitl [HS1]
        · iexists _; isplitr; swap; · iexact HS1
          ipureintro; rw [hco, hsc]; exact SInv_step m c t.val s hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
  · have hn0 : t.val ≠ 0 := by omega
    by_cases h1 : t.val % 36 = 35
    · have hi4 : cfg0.idle 4 (grid0.coords t) = true := by rw [idle_4]; rw [beq_eq_false_iff_ne.mpr (fun h => h0 ((hcond0_0 t).mp h))]; rfl
      have hi5 : cfg0.idle 5 (grid0.coords t) = true := by rw [idle_5]; rw [beq_eq_false_iff_ne.mpr (fun h => h0 ((hcond0_0 t).mp h))]; rfl
      have hi7 : cfg0.idle 7 (grid0.coords t) = false := by rw [idle_7]; rw [(hcond0_1 t).mpr h1]; rfl
      have hf4 : (cfg0.win 4).flush t = true := (flush0_4 t).mpr h1
      have hf5 : (cfg0.win 5).flush t = true := (flush0_5 t).mpr h1
      have hf7 : (cfg0.win 7).flush t = true := (flush0_7 t).mpr h1
      rw [show (dats m 0 c).leavesExact 0 t = owns (c : Thread nD τ) (ms0_0 t) fullShare ((dats m 0 c).after 0 t) from by
        unfold Dat.leavesExact; rw [show cfg0.idle 0 (grid0.coords t) = false from rfl], after0_0, iblk_w]
      rw [show (dats m 0 c).leavesExact 1 t = owns (c : Thread nD τ) (ms0_1 t) fullShare ((dats m 0 c).after 1 t) from by
        unfold Dat.leavesExact; rw [show cfg0.idle 1 (grid0.coords t) = false from rfl], after0_1, iblk_g]
      rw [show (dats m 0 c).leavesExact 2 t = owns (c : Thread nD τ) (ms0_2 t) fullShare ((dats m 0 c).after 2 t) from by
        unfold Dat.leavesExact; rw [show cfg0.idle 2 (grid0.coords t) = false from rfl], after0_2, iblk_x]
      rw [show (dats m 0 c).leavesExact 3 t = owns (c : Thread nD τ) (ms0_3 t) fullShare ((dats m 0 c).after 3 t) from by
        unfold Dat.leavesExact; rw [show cfg0.idle 3 (grid0.coords t) = false from rfl], after0_3]
      rw [show (dats m 0 c).leavesExact 6 t = owns (c : Thread nD τ) (ms0_6 t) fullShare ((dats m 0 c).after 6 t) from by
        unfold Dat.leavesExact; rw [show cfg0.idle 6 (grid0.coords t) = false from rfl], after0_6]
      rw [show (dats m 0 c).leavesExact 4 t = owns (c : Thread nD τ) (ms0_4 t) fullShare ((dats m 0 c).after 4 t) from by
        unfold Dat.leavesExact; rw [show cfg0.idle 4 (grid0.coords t) = true from hi4, show (cfg0.win 4).flush t = true from hf4], after0_4]
      rw [show (dats m 0 c).leavesExact 5 t = owns (c : Thread nD τ) (ms0_5 t) fullShare ((dats m 0 c).after 5 t) from by
        unfold Dat.leavesExact; rw [show cfg0.idle 5 (grid0.coords t) = true from hi5, show (cfg0.win 5).flush t = true from hf5], after0_5]
      rw [show (dats m 0 c).leavesExact 7 t = owns (c : Thread nD τ) (ms0_7 t) fullShare ((dats m 0 c).after 7 t) from by
        unfold Dat.leavesExact; rw [show cfg0.idle 7 (grid0.coords t) = false from hi7], after0_7]
      iintro ⟨⟨⟨%w, %hw, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hw hn0
      rw [before0_4 m c t hn0 d4, before0_5 m c t hn0 d5]
      iapply ((runC c (grid0.coords t) _ _ _ _ _ _ _ _ _ _ _ _ _ _ _ _ _ _ _ _ (fun h => h0 ((hcond0_0 t).mp h)) ((hcond0_1 t).mpr h1) (Wt m c) (Gt m c) (Xt m c t.val) (gamV (Wt m c)) (wbV (Wt m c)) s) Set.univ _)
      isplitl [H0]; · iexact H0
      isplitl [H1]; · iexact H1
      isplitl [H2]; · iexact H2
      isplitl [H3]; · iexists _; iexact H3
      isplitl [H5]; · iexact H5
      isplitl [H6]; · iexists _; iexact H6
      isplitl [H7]; · iexists _; iexact H7
      isplitl [HS0]; · iexact HS0
      isplitl [HS1]; · iexact HS1
      iintro ⟨H0, H1, H2, H3, H5, H6, H7, HS0, HS1⟩
      isplitl [HS0 HS1 Hg]
      · isplitl [HS0]
        · iexists _; isplitr; swap; · iexact HS0
          ipureintro; exact fun _ => rfl
        isplitl [HS1]
        · iexists _; isplitr; swap; · iexact HS1
          ipureintro; rw [hco, hsc]; exact SInv_step m c t.val s hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [show xsV (scal m c) = xsV (rowsV (grid0.coords t 0).val (k0_pay11 (Xt m c t.val) (Gt m c)) s) from congrArg xsV (SInv_last m c _ (by
        rw [hco, hsc]; have := SInv_step m c t.val s hs; rwa [show t.val + 1 = 36 by omega] at this)).symm]
      iexact H7
    · have hi4 : cfg0.idle 4 (grid0.coords t) = true := by rw [idle_4]; rw [beq_eq_false_iff_ne.mpr (fun h => h0 ((hcond0_0 t).mp h))]; rfl
      have hi5 : cfg0.idle 5 (grid0.coords t) = true := by rw [idle_5]; rw [beq_eq_false_iff_ne.mpr (fun h => h0 ((hcond0_0 t).mp h))]; rfl
      have hi7 : cfg0.idle 7 (grid0.coords t) = true := by rw [idle_7]; rw [beq_eq_false_iff_ne.mpr (fun h => h1 ((hcond0_1 t).mp h))]; rfl
      have hf4 : (cfg0.win 4).flush t = false := Bool.eq_false_iff.mpr fun h => h1 ((flush0_4 t).mp h)
      have hf5 : (cfg0.win 5).flush t = false := Bool.eq_false_iff.mpr fun h => h1 ((flush0_5 t).mp h)
      have hf7 : (cfg0.win 7).flush t = false := Bool.eq_false_iff.mpr fun h => h1 ((flush0_7 t).mp h)
      rw [show (dats m 0 c).leavesExact 0 t = owns (c : Thread nD τ) (ms0_0 t) fullShare ((dats m 0 c).after 0 t) from by
        unfold Dat.leavesExact; rw [show cfg0.idle 0 (grid0.coords t) = false from rfl], after0_0, iblk_w]
      rw [show (dats m 0 c).leavesExact 1 t = owns (c : Thread nD τ) (ms0_1 t) fullShare ((dats m 0 c).after 1 t) from by
        unfold Dat.leavesExact; rw [show cfg0.idle 1 (grid0.coords t) = false from rfl], after0_1, iblk_g]
      rw [show (dats m 0 c).leavesExact 2 t = owns (c : Thread nD τ) (ms0_2 t) fullShare ((dats m 0 c).after 2 t) from by
        unfold Dat.leavesExact; rw [show cfg0.idle 2 (grid0.coords t) = false from rfl], after0_2, iblk_x]
      rw [show (dats m 0 c).leavesExact 3 t = owns (c : Thread nD τ) (ms0_3 t) fullShare ((dats m 0 c).after 3 t) from by
        unfold Dat.leavesExact; rw [show cfg0.idle 3 (grid0.coords t) = false from rfl], after0_3]
      rw [show (dats m 0 c).leavesExact 6 t = owns (c : Thread nD τ) (ms0_6 t) fullShare ((dats m 0 c).after 6 t) from by
        unfold Dat.leavesExact; rw [show cfg0.idle 6 (grid0.coords t) = false from rfl], after0_6]
      rw [(dats m 0 c).leavesExact_idle 4 t hi4 hf4]
      rw [(dats m 0 c).leavesExact_idle 5 t hi5 hf5]
      rw [(dats m 0 c).leavesExact_idle 7 t hi7 hf7]
      iintro ⟨⟨⟨%w, %hw, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hw hn0
      rw [before0_4 m c t hn0 d4, before0_5 m c t hn0 d5]
      iapply ((runB c (grid0.coords t) _ _ _ _ _ _ _ _ _ _ _ _ _ _ _ _ _ _ _ _ (fun h => h0 ((hcond0_0 t).mp h)) (fun h => h1 ((hcond0_1 t).mp h)) (Wt m c) (Gt m c) (Xt m c t.val) (gamV (Wt m c)) (wbV (Wt m c)) s) Set.univ _)
      isplitl [H0]; · iexact H0
      isplitl [H1]; · iexact H1
      isplitl [H2]; · iexact H2
      isplitl [H3]; · iexists _; iexact H3
      isplitl [H5]; · iexact H5
      isplitl [H6]; · iexists _; iexact H6
      isplitl [HS0]; · iexact HS0
      isplitl [HS1]; · iexact HS1
      iintro ⟨H0, H1, H2, H3, H5, H6, HS0, HS1⟩
      isplitl [HS0 HS1 Hg]
      · isplitl [HS0]
        · iexists _; isplitr; swap; · iexact HS0
          ipureintro; exact fun _ => rfl
        isplitl [HS1]
        · iexists _; isplitr; swap; · iexact HS1
          ipureintro; rw [hco, hsc]; exact SInv_step m c t.val s hs
        iexact Hg
      isplitl [Ho]; · iexact Ho
      isplitl [H0]; · iexact H0
      isplitl [H1]; · iexact H1
      isplitl [H2]; · iexact H2
      isplitl [H3]; · iexact H3
      isplitl [H4]; · iexists d4; rw [before0_4 m c t hn0 d4]; iexact H4
      isplitl [H5]; · iexists d5; rw [before0_5 m c t hn0 d5]; iexact H5
      isplitl [H6]; · iexact H6
      iexists d7; iexact H7

/-- The body table's row at a grid point is the body. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first grid point nothing is known of the scratch. -/
theorem inv_in (c : Dev nD) : Pipeline.ΦA spec0 c ⊢ Inv (F := F) m c 0 := by
  rw [PhiA0_eq]; unfold Inv
  iintro ⟨⟨⟨%w, HS0⟩, ⟨%s, HS1⟩⟩, Hg⟩
  isplitl [HS0]
  · iexists _; isplitr; swap; · iexact HS0
    ipureintro; exact fun h => absurd rfl h
  isplitl [HS1]
  · iexists _; isplitr; swap; · iexact HS1
    ipureintro; exact fun y hy => absurd hy (by omega)
  iexact Hg

/-- After the last grid point the scratch is forgotten. -/
theorem inv_out (c : Dev nD) (n : ℕ) : Inv (F := F) m c n ⊢ Pipeline.ΦA spec0 c := by
  rw [PhiA0_eq]; unfold Inv
  iintro ⟨⟨%w, %hw, HS0⟩, ⟨%s, %hs, HS1⟩, Hg⟩
  isplitl [HS0 HS1]
  · isplitl [HS0]
    · iexists _; iexact HS0
    iexists _; iexact HS1
  iexact Hg

set_option backward.isDefEq.respectTransparency.types false in
/-- The launch: every array ends at what the proof data names, and every counter ends at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := fun c => inv_out m c _)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Hand
-- ==== Proof.KI.Base.lean ====
/- What the hand-written value proof of the idealized kernel shares between its case runs: the branch conditions in
   closed form over the grid points, the staging and scratch memrefs, and the invariant spelled over them. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 36 = 35 :=
  (fun t => by
    have ht : t.val < 36 := Nat.lt_of_lt_of_eq t.isLt N_0
    have e0 : (grid0.coords t 0).val = t.val / 1 % 36 := Pipeline.Grid.coords_val t 0 (by decide) rfl
    simp only [cond0_1, k0_cond2, e0]
    word_cmp
   : ∀ t : Fin grid0.N, cond0_1 (grid0.coords t) ↔ t.val % 36 = 35)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2816 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2816 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x768 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2816 .bf16 := Memref.whole cc0_scratch0
abbrev scM0_1 : Memref sig .tc .vmem S144x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Spec.lean ====
/- What each case of the body leaves in each buffer, as functions of what it found there, and the view lemmas
   that read the run's stores as those functions. -/
module

public import proofs.«01_k».proof.Proof.KI.Base
public import Idealize.ShloMosaic.Lib.Pipeline.ValueKit
public import Idealize.ShloMosaic.Lib.WritesUnit
public import Idealize.ShloMosaic.Lib.WholeRead
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, as functions -/

/-- Rows `8k … 8k+7` of the weight. -/
def rows8 (x : Vec F S1024x2816 .f32) (k : ℕ) : Vec F S8x2816 .f32 :=
  fun y => x (ix2 ⟨(8 * k + (y 0).val) % 1024, Nat.mod_lt _ (by decide)⟩ (y 1))

/-- Rows `128k … 128k+127` of the weight. -/
def rows128 (x : Vec F S1024x2816 .f32) (k : ℕ) : Vec F S128x2816 .f32 :=
  fun y => x (ix2 ⟨(128 * k + (y 0).val) % 1024, Nat.mod_lt _ (by decide)⟩ (y 1))

/-- The 8-row accumulator of absolute values after `k` trips of the first loop. -/
def accK (x : Vec F S1024x2816 .f32) : ℕ → FVec F S8x2816 .f32
  | 0 => k0_pay4
  | k + 1 => k0_pay5 (accK x k) (rows8 x k)

/-- The mean absolute value the first grid point stores. -/
def gam (x : Vec F S1024x2816 .f32) : F .f32 := k0_pay6 (accK x 128)

/-- The 1x1 result holding it. -/
def gamV (x : Vec F S1024x2816 .f32) : Vec F S1x1 .f32 := fun _ => gam x

/-- The ternary weight codes as integers. -/
def wqV (x : Vec F S1024x2816 .f32) : Vec F S1024x2816 .i8 :=
  fun y => k0_pay8 (accK x 128) (rows128 x ((y 0).val / 128)) (ix2 ⟨(y 0).val % 128, Nat.mod_lt _ (by decide)⟩ (y 1))

/-- The ternary weight codes as the matrix unit's operand. -/
def wbV (x : Vec F S1024x2816 .f32) : Vec F S1024x2816 .bf16 :=
  fun y => k0_pay9 (accK x 128) (rows128 x ((y 0).val / 128)) (ix2 ⟨(y 0).val % 128, Nat.mod_lt _ (by decide)⟩ (y 1))

/-- The block of `y` a grid point stores, from the scale row vector `x1`, the block `x2`, the mean and the codes. -/
def yV (x1 : Vec F S1x1024 .f32) (x2 : Vec F S512x1024 .bf16) (g : F .f32) (wb : Vec F S1024x2816 .bf16) : Vec F S512x2816 .bf16 :=
  k0_pay3 g (k0_pay11 x2 x1) (k0_pay14 (k0_pay12 x2 x1)) wb

/-- The scratch of scales after grid point `t` wrote its four rows over `s`. -/
def rowsV (t : ℕ) (sc : FVec F S512x1 .f32) (s : Vec F S144x128 .f32) : Vec F S144x128 .f32 := fun y =>
  if (y 0).val = 4 * t + 3 then k0_pay2 sc (ix2 0 (y 1))
  else if (y 0).val = 4 * t + 2 then k0_pay1 (k0_pay17 sc) (ix2 0 (y 1))
  else if (y 0).val = 4 * t + 1 then k0_pay16 sc (ix2 0 (y 1))
  else if (y 0).val = 4 * t then k0_pay15 sc (ix2 0 (y 1))
  else s y

/-- The result of scales the last grid point copies out of the scratch `s`. -/
def xsV (s : Vec F S144x128 .f32) : Vec F S24x768 .f32 := fun y =>
  s (ix2 ⟨(6 * (y 0).val + (y 1).val / 128) % 144, Nat.mod_lt _ (by decide)⟩ ⟨(y 1).val % 128, Nat.mod_lt _ (by decide)⟩)

/-! ## Reading the run's stores -/

section Reads
variable {κ : Kind} {sp : Space}

/-- The four row stores of a grid point, read back: the scratch is `rowsV`. -/
theorem read_rows {M : Memref sig κ sp S144x128 .f32} (h : M.IsWhole) (i : grid0.Coords) (s : Vec F S144x128 .f32)
    (sc : FVec F S512x1 .f32) (h0 h1 h2 h3) :
    M.view.read (Elt F) (M.view.writes (Elt F) (h.unread s)
      [⟨Rect.unit (k0_off3 i 3#32) ![1, 128] h3, k0_pay2 sc⟩,
       ⟨Rect.unit (k0_off3 i 2#32) ![1, 128] h2, k0_pay1 (k0_pay17 sc)⟩,
       ⟨Rect.unit (k0_off3 i 1#32) ![1, 128] h1, k0_pay16 sc⟩,
       ⟨Rect.unit (k0_off3 i 0#32) ![1, 128] h0, k0_pay15 sc⟩]) = rowsV (i 0).val sc s := by
  funext y
  have e3 : k0_off3 i 3#32 = ![4 * (i 0).val + 3, 0] := k0_off3_eq i ⟨3, by decide⟩
  have e2 : k0_off3 i 2#32 = ![4 * (i 0).val + 2, 0] := k0_off3_eq i ⟨2, by decide⟩
  have e1 : k0_off3 i 1#32 = ![4 * (i 0).val + 1, 0] := k0_off3_eq i ⟨1, by decide⟩
  have e0 : k0_off3 i 0#32 = ![4 * (i 0).val, 0] := k0_off3_eq i ⟨0, by decide⟩
  unfold rowsV
  by_cases c3 : (y 0).val = 4 * (i 0).val + 3
  · rw [if_pos c3]
    exact View.read_writes_cons_rows_of_mem (d := ![144, 128]) _ _ _ _ _ y (ix2 0 (y 1)) e3 (by rw [c3]; rfl) rfl
  rw [if_neg c3]
  refine (View.read_writes_cons_rows_of_not_mem (d := ![144, 128]) (W := 1) _ _ _ _ _ y e3 rfl (by omega)).trans ?_
  by_cases c2 : (y 0).val = 4 * (i 0).val + 2
  · rw [if_pos c2]
    exact View.read_writes_cons_rows_of_mem (d := ![144, 128]) _ _ _ _ _ y (ix2 0 (y 1)) e2 (by rw [c2]; rfl) rfl
  rw [if_neg c2]
  refine (View.read_writes_cons_rows_of_not_mem (d := ![144, 128]) (W := 1) _ _ _ _ _ y e2 rfl (by omega)).trans ?_
  by_cases c1 : (y 0).val = 4 * (i 0).val + 1
  · rw [if_pos c1]
    exact View.read_writes_cons_rows_of_mem (d := ![144, 128]) _ _ _ _ _ y (ix2 0 (y 1)) e1 (by rw [c1]; rfl) rfl
  rw [if_neg c1]
  refine (View.read_writes_cons_rows_of_not_mem (d := ![144, 128]) (W := 1) _ _ _ _ _ y e1 rfl (by omega)).trans ?_
  by_cases c0 : (y 0).val = 4 * (i 0).val
  · rw [if_pos c0]
    exact View.read_writes_cons_rows_of_mem (d := ![144, 128]) _ _ _ _ _ y (ix2 0 (y 1)) e0 (by rw [c0]; rfl) rfl
  rw [if_neg c0]
  refine (View.read_writes_cons_rows_of_not_mem (d := ![144, 128]) (W := 1) _ _ _ _ _ y e0 rfl (by omega)).trans ?_
  exact congrFun (h.read_unread s) y

/-- One strided read of the scratch, at an index: row `6b + c`. -/
theorem strided_apply (M : Memref sig κ sp S144x128 .f32) (f : BufTy.Contents (Elt F) M.view.ty) (o : ℕ)
    (h) (x : S24x128.Idx) (y : S24x768.Idx) (h0 : (y 0).val = (x 0).val)
    (h1 : (y 1).val = 128 * o + (x 1).val) :
    M.view.readAt (Elt F) (⟨![o, 0], S24x128.size, ![6, 1], h⟩ : LoadRect S144x128) f x = xsV (M.view.read (Elt F) f) y := by
  have hx0 : (x 0).val < 24 := (x 0).isLt
  have hx1 : (x 1).val < 128 := (x 1).isLt
  have hy1 : (y 1).val < 768 := (y 1).isLt
  rw [View.readAt_apply]
  refine congrArg (M.view.read (Elt F) f) (funext fun a => Fin.ext ?_)
  match a with
  | ⟨0, _⟩ =>
    show o + 6 * (x 0).val = (6 * (y 0).val + (y 1).val / 128) % 144
    rw [h0, h1]; omega
  | ⟨1, _⟩ =>
    show 0 + 1 * (x 1).val = (y 1).val % 128
    rw [h1]; omega

/-- The six column blocks of the last grid point, read back. -/
theorem read_xs (M8 : Memref sig κ sp S24x768 .f32) (M : Memref sig κ sp S144x128 .f32) (f8 : BufTy.Contents (Elt F) M8.view.ty)
    (f : BufTy.Contents (Elt F) M.view.ty) (i0 i1 i2 i3 i4 i5 h0 h1 h2 h3 h4 h5) :
    M8.view.read (Elt F) (M8.view.writes (Elt F) f8
      [⟨Rect.unit ![0, 640] S24x128.size i5, M.view.readAt (Elt F) (⟨![5, 0], S24x128.size, ![6, 1], h5⟩ : LoadRect S144x128) f⟩,
       ⟨Rect.unit ![0, 512] S24x128.size i4, M.view.readAt (Elt F) (⟨![4, 0], S24x128.size, ![6, 1], h4⟩ : LoadRect S144x128) f⟩,
       ⟨Rect.unit ![0, 384] S24x128.size i3, M.view.readAt (Elt F) (⟨![3, 0], S24x128.size, ![6, 1], h3⟩ : LoadRect S144x128) f⟩,
       ⟨Rect.unit ![0, 256] S24x128.size i2, M.view.readAt (Elt F) (⟨![2, 0], S24x128.size, ![6, 1], h2⟩ : LoadRect S144x128) f⟩,
       ⟨Rect.unit ![0, 128] S24x128.size i1, M.view.readAt (Elt F) (⟨![1, 0], S24x128.size, ![6, 1], h1⟩ : LoadRect S144x128) f⟩,
       ⟨Rect.unit ![0, 0] S24x128.size i0, M.view.readAt (Elt F) (⟨![0, 0], S24x128.size, ![6, 1], h0⟩ : LoadRect S144x128) f⟩])
      = xsV (M.view.read (Elt F) f) := by
  funext y
  have hy1 : (y 1).val < 768 := (y 1).isLt
  by_cases c5 : 640 ≤ (y 1).val
  · refine (View.read_writes_cons_unit_of_mem _ _ _ _ _ y (ix2 (y 0) ⟨(y 1).val - 640, by omega⟩ : S24x128.Idx) rfl
      (Fin.forall_fin_two.mpr ⟨by show (y 0).val = 0 + (y 0).val; omega, by show (y 1).val = 640 + ((y 1).val - 640); omega⟩)).trans ?_
    exact strided_apply M f 5 _ _ y rfl (by show (y 1).val = 128 * 5 + ((y 1).val - 640); omega)
  refine (View.read_writes_cons_unit_of_not_mem _ _ _ _ _ y rfl (1 : Fin 2) (.inl (by show (y 1).val < 640; omega))).trans ?_
  by_cases c4 : 512 ≤ (y 1).val
  · refine (View.read_writes_cons_unit_of_mem _ _ _ _ _ y (ix2 (y 0) ⟨(y 1).val - 512, by omega⟩ : S24x128.Idx) rfl
      (Fin.forall_fin_two.mpr ⟨by show (y 0).val = 0 + (y 0).val; omega, by show (y 1).val = 512 + ((y 1).val - 512); omega⟩)).trans ?_
    exact strided_apply M f 4 _ _ y rfl (by show (y 1).val = 128 * 4 + ((y 1).val - 512); omega)
  refine (View.read_writes_cons_unit_of_not_mem _ _ _ _ _ y rfl (1 : Fin 2) (.inl (by show (y 1).val < 512; omega))).trans ?_
  by_cases c3 : 384 ≤ (y 1).val
  · refine (View.read_writes_cons_unit_of_mem _ _ _ _ _ y (ix2 (y 0) ⟨(y 1).val - 384, by omega⟩ : S24x128.Idx) rfl
      (Fin.forall_fin_two.mpr ⟨by show (y 0).val = 0 + (y 0).val; omega, by show (y 1).val = 384 + ((y 1).val - 384); omega⟩)).trans ?_
    exact strided_apply M f 3 _ _ y rfl (by show (y 1).val = 128 * 3 + ((y 1).val - 384); omega)
  refine (View.read_writes_cons_unit_of_not_mem _ _ _ _ _ y rfl (1 : Fin 2) (.inl (by show (y 1).val < 384; omega))).trans ?_
  by_cases c2 : 256 ≤ (y 1).val
  · refine (View.read_writes_cons_unit_of_mem _ _ _ _ _ y (ix2 (y 0) ⟨(y 1).val - 256, by omega⟩ : S24x128.Idx) rfl
      (Fin.forall_fin_two.mpr ⟨by show (y 0).val = 0 + (y 0).val; omega, by show (y 1).val = 256 + ((y 1).val - 256); omega⟩)).trans ?_
    exact strided_apply M f 2 _ _ y rfl (by show (y 1).val = 128 * 2 + ((y 1).val - 256); omega)
  refine (View.read_writes_cons_unit_of_not_mem _ _ _ _ _ y rfl (1 : Fin 2) (.inl (by show (y 1).val < 256; omega))).trans ?_
  by_cases c1 : 128 ≤ (y 1).val
  · refine (View.read_writes_cons_unit_of_mem _ _ _ _ _ y (ix2 (y 0) ⟨(y 1).val - 128, by omega⟩ : S24x128.Idx) rfl
      (Fin.forall_fin_two.mpr ⟨by show (y 0).val = 0 + (y 0).val; omega, by show (y 1).val = 128 + ((y 1).val - 128); omega⟩)).trans ?_
    exact strided_apply M f 1 _ _ y rfl (by show (y 1).val = 128 * 1 + ((y 1).val - 128); omega)
  refine (View.read_writes_cons_unit_of_not_mem _ _ _ _ _ y rfl (1 : Fin 2) (.inl (by show (y 1).val < 128; omega))).trans ?_
  refine (View.read_writes_cons_unit_of_mem _ _ _ _ _ y (ix2 (y 0) ⟨(y 1).val, by omega⟩ : S24x128.Idx) rfl
      (Fin.forall_fin_two.mpr ⟨by show (y 0).val = 0 + (y 0).val; omega, by show (y 1).val = 0 + (y 1).val; omega⟩)).trans ?_
  exact strided_apply M f 0 _ _ y rfl (by show (y 1).val = 128 * 0 + (y 1).val; omega)
end Reads

end Cert.KernelIdeal.Hand
-- ==== Proof.KI.RunB.lean ====
/- The body's run at a middle grid point, every buffer's contents named. -/
module

public import proofs.«01_k».proof.Proof.KI.Spec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle grid point the body computes the block of `y`, its activation codes and four rows of scales. -/
theorem runB (c : Dev nD) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc0 : ¬cond0_0 i) (hc1 : ¬cond0_1 i)
    (x0 : Vec F S1024x2816 .f32) (x1 : Vec F S1x1024 .f32) (x2 : Vec F S512x1024 .bf16) (g6 : Vec F S1x1 .f32) (wb : Vec F S1024x2816 .bf16) (s : Vec F S144x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg6 fullShare g6 ∗ (∃ d, owns (c : Thread nD τ) arg7 fullShare d) ∗ owns (c : Thread nD τ) arg9 fullShare wb ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare (yV x1 x2 (g6 (ix2 0 0)) wb) ∗ owns (c : Thread nD τ) arg6 fullShare g6 ∗ owns (c : Thread nD τ) arg7 fullShare (k0_pay13 x2 x1) ∗ owns (c : Thread nD τ) arg9 fullShare wb ∗ owns (c : Thread nD τ) arg10 fullShare (rowsV (i 0).val (k0_pay11 x2 x1) s)) -∗ K ⟨⟩))
          ⊢ wp frame (wpE (defs₀ (F := F)) Variants.none c none) E (cc0_bitlinear i arg1 harg1 arg2 harg2 arg3 harg3 arg4 harg4 arg5 harg5 arg6 harg6 arg7 harg7 arg8 harg8 arg9 harg9 arg10 harg10) K := by
    intro E K
    simp only [cc0_bitlinear_eq_skeleton]; unfold cc0_bitlinear_skel
    simp only [k0_part1_eq_skeleton, k0_part2_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%d7, %f7, -, H7⟩, ⟨%f9, %hf9, H9⟩, ⟨%f10, %hf10, H10⟩, Hk⟩
    obtain rfl := harg1.eq_unread hf1; obtain rfl := harg2.eq_unread hf2; obtain rfl := harg3.eq_unread hf3; obtain rfl := harg6.eq_unread hf6; obtain rfl := harg9.eq_unread hf9; obtain rfl := harg10.eq_unread hf10
    sl_exec (disch := first | sl_exact hc0 | sl_exact hc1)
    sl_step
    have hg2 : View.readAt (Elt F) arg2.view (Rect.unit ![0, 0] S1x1024.size inb_S1x1024_S1x1024_0_0).toLoadRect (harg2.unread x1) = x1 := (View.readAt_full _ _ _).trans (harg2.read_unread _)
    have hg3 : View.readAt (Elt F) arg3.view (Rect.unit ![0, 0] S512x1024.size inb_S512x1024_S512x1024_0_0).toLoadRect (harg3.unread x2) = x2 := (View.readAt_full _ _ _).trans (harg3.read_unread _)
    have hg9 : View.readAt (Elt F) arg9.view (Rect.unit ![0, 0] ![1024, 2816] inb_S1024x2816_S1024x2816_0_0).toLoadRect (harg9.unread wb) = wb := (View.readAt_full _ _ _).trans (harg9.read_unread _)
    have hg6 : View.readAt (Elt F) arg6.view (Rect.unit ![0, 0] S1x1.size inb_S1x1_S1x1_0_0).toLoadRect (harg6.unread g6) (Shape.Idx.first (by decide)) = g6 (ix2 0 0) := by
      rw [View.readAt_full, harg6.read_unread]; exact congrArg g6 (funext fun a => Fin.ext (by have := (Shape.Idx.first (s := S1x1) (by decide) a).isLt; fin_cases a <;> rfl))
    sl_unfold_run_names
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact (View.read_writes_full _ _ _ _ _).trans (by rw [hg2, hg3, hg9, hg6]; rfl)
    isplitl [H6]
    · iexists _; isplitr; swap; · iexact H6
      ipureintro; exact harg6.read_unread _
    isplitl [H7]
    · iexists _; isplitr; swap; · iexact H7
      ipureintro; exact (View.read_writes_full _ _ _ _ _).trans (by rw [hg2, hg3])
    isplitl [H9]
    · iexists _; isplitr; swap; · iexact H9
      ipureintro; exact harg9.read_unread _
    iexists _; isplitr; swap; · iexact H10
    ipureintro; exact by rw [hg2, hg3]; exact read_rows harg10 i s _ _ _ _ _

end Cert.KernelIdeal.Hand
-- ==== Proof.KI.RunC.lean ====
/- The body's run at the last grid point, every buffer's contents named. -/
module

public import proofs.«01_k».proof.Proof.KI.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last grid point the body also copies the scratch of scales to its result. -/
theorem runC (c : Dev nD) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc0 : ¬cond0_0 i) (hc1 : cond0_1 i)
    (x0 : Vec F S1024x2816 .f32) (x1 : Vec F S1x1024 .f32) (x2 : Vec F S512x1024 .bf16) (g6 : Vec F S1x1 .f32) (wb : Vec F S1024x2816 .bf16) (s : Vec F S144x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg6 fullShare g6 ∗ (∃ d, owns (c : Thread nD τ) arg7 fullShare d) ∗ (∃ d, owns (c : Thread nD τ) arg8 fullShare d) ∗ owns (c : Thread nD τ) arg9 fullShare wb ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare (yV x1 x2 (g6 (ix2 0 0)) wb) ∗ owns (c : Thread nD τ) arg6 fullShare g6 ∗ owns (c : Thread nD τ) arg7 fullShare (k0_pay13 x2 x1) ∗ owns (c : Thread nD τ) arg8 fullShare (xsV (rowsV (i 0).val (k0_pay11 x2 x1) s)) ∗ owns (c : Thread nD τ) arg9 fullShare wb ∗ owns (c : Thread nD τ) arg10 fullShare (rowsV (i 0).val (k0_pay11 x2 x1) s)) -∗ K ⟨⟩))
          ⊢ wp frame (wpE (defs₀ (F := F)) Variants.none c none) E (cc0_bitlinear i arg1 harg1 arg2 harg2 arg3 harg3 arg4 harg4 arg5 harg5 arg6 harg6 arg7 harg7 arg8 harg8 arg9 harg9 arg10 harg10) K := by
    intro E K
    simp only [cc0_bitlinear_eq_skeleton]; unfold cc0_bitlinear_skel
    simp only [k0_part1_eq_skeleton, k0_part2_eq_skeleton]
    unfold owns
    iintro ⟨⟨%f1, %hf1, H1⟩, ⟨%f2, %hf2, H2⟩, ⟨%f3, %hf3, H3⟩, ⟨%d4, %f4, -, H4⟩, ⟨%f6, %hf6, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg6.eq_unread hf6; obtain rfl := harg9.eq_unread hf9; obtain rfl := harg10.eq_unread hf10
    sl_exec (disch := first | sl_exact hc0 | sl_exact hc1)
    sl_step
    have hg2 : View.readAt (Elt F) arg2.view (Rect.unit ![0, 0] S1x1024.size inb_S1x1024_S1x1024_0_0).toLoadRect (harg2.unread x1) = x1 := (View.readAt_full _ _ _).trans (harg2.read_unread _)
    have hg3 : View.readAt (Elt F) arg3.view (Rect.unit ![0, 0] S512x1024.size inb_S512x1024_S512x1024_0_0).toLoadRect (harg3.unread x2) = x2 := (View.readAt_full _ _ _).trans (harg3.read_unread _)
    have hg9 : View.readAt (Elt F) arg9.view (Rect.unit ![0, 0] ![1024, 2816] inb_S1024x2816_S1024x2816_0_0).toLoadRect (harg9.unread wb) = wb := (View.readAt_full _ _ _).trans (harg9.read_unread _)
    have hg6 : View.readAt (Elt F) arg6.view (Rect.unit ![0, 0] S1x1.size inb_S1x1_S1x1_0_0).toLoadRect (harg6.unread g6) (Shape.Idx.first (by decide)) = g6 (ix2 0 0) := by
      rw [View.readAt_full, harg6.read_unread]; exact congrArg g6 (funext fun a => Fin.ext (by have := (Shape.Idx.first (s := S1x1) (by decide) a).isLt; fin_cases a <;> rfl))
    sl_unfold_run_names
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact (View.read_writes_full _ _ _ _ _).trans (by rw [hg2, hg3, hg9, hg6]; rfl)
    isplitl [H6]
    · iexists _; isplitr; swap; · iexact H6
      ipureintro; exact harg6.read_unread _
    isplitl [H7]
    · iexists _; isplitr; swap; · iexact H7
      ipureintro; exact (View.read_writes_full _ _ _ _ _).trans (by rw [hg2, hg3])
    isplitl [H8]
    · iexists _; isplitr; swap; · iexact H8
      ipureintro; exact (read_xs _ _ _ _ _ _ _ _ _ _ _ _ _ _ _ _).trans (by rw [hg2, hg3]; exact congrArg xsV (read_rows harg10 i s _ _ _ _ _))
    isplitl [H9]
    · iexists _; isplitr; swap; · iexact H9
      ipureintro; exact harg9.read_unread _
    iexists _; isplitr; swap; · iexact H10
    ipureintro; exact by rw [hg2, hg3]; exact read_rows harg10 i s _ _ _ _ _

end Cert.KernelIdeal.Hand
-- ==== Proof.KI.LoopsA.lean ====
/- The two counted loops of the first grid point in closed form: the accumulator after each trip, and the rows of
   codes the trips so far have stored. -/
module

public import proofs.«01_k».proof.Proof.KI.RunC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of 8 whole rows of the weight. -/
theorem ld_rows8 {κ : Kind} {sp : Space} {M : Memref sig κ sp S1024x2816 .f32} (h : M.IsWhole) (x0 : Vec F S1024x2816 .f32)
    (k : Fin k0_t1_loop.trips) (hb) :
    M.view.readAt (Elt F) (Rect.unit (s := S1024x2816) (k0_off1 k) S8x2816.size hb).toLoadRect (h.unread x0) = rows8 x0 k.val := by
  funext x
  have hk : k.val < 128 := Nat.lt_of_lt_of_le k.isLt k0_t1_abs.2.1
  have hx : (x 0).val < 8 := (x 0).isLt
  rw [h.readAt_unread]
  refine congrArg x0 (funext fun a => Fin.ext ?_)
  have e0 : k0_off1 k 0 = 8 * k.val := congrFun (k0_off1_eq k) 0
  have e1 : k0_off1 k 1 = 0 := congrFun (k0_off1_eq k) 1
  match a with
  | ⟨0, _⟩ =>
    show k0_off1 k 0 + 1 * (x 0).val = (8 * k.val + (x 0).val) % 1024
    omega
  | ⟨1, _⟩ =>
    show k0_off1 k 1 + 1 * (x 1).val = (x 1).val
    omega

/-- A load of 128 whole rows of the weight. -/
theorem ld_rows128 {κ : Kind} {sp : Space} {M : Memref sig κ sp S1024x2816 .f32} (h : M.IsWhole) (x0 : Vec F S1024x2816 .f32)
    (k : Fin k0_t2_loop.trips) (hb) :
    M.view.readAt (Elt F) (Rect.unit (s := S1024x2816) (k0_off2 k) S128x2816.size hb).toLoadRect (h.unread x0) = rows128 x0 k.val := by
  funext x
  have hk : k.val < 8 := Nat.lt_of_lt_of_le k.isLt k0_t2_abs.2.1
  have hx : (x 0).val < 128 := (x 0).isLt
  rw [h.readAt_unread]
  refine congrArg x0 (funext fun a => Fin.ext ?_)
  have e0 : k0_off2 k 0 = 128 * k.val := congrFun (k0_off2_eq k) 0
  have e1 : k0_off2 k 1 = 0 := congrFun (k0_off2_eq k) 1
  match a with
  | ⟨0, _⟩ =>
    show k0_off2 k 0 + 1 * (x 0).val = (128 * k.val + (x 0).val) % 1024
    omega
  | ⟨1, _⟩ =>
    show k0_off2 k 1 + 1 * (x 1).val = (x 1).val
    omega

/-- The carried accumulator before trip `k` of the first loop. -/
theorem st_eq (𝒱 : Variants) (c : Dev nD) (bd : Option 𝒱.V) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc : k0_cond1 i = 1#1) (x0 : Vec F S1024x2816 .f32) : ∀ k : ℕ, k ≤ k0_t1_loop.trips →
    st_k0_t1 (F := F) 𝒱 c bd i arg1 harg1 arg2 harg2 arg3 harg3 arg4 harg4 arg5 harg5 arg6 harg6 arg7 harg7 arg8 harg8 arg9 harg9 arg10 harg10 hc (harg1.unread x0) k0_pay4 k = accK x0 k
  | 0, _ => rfl
  | k + 1, hk => by
    rw [st_k0_t1_succ 𝒱 c bd i arg1 harg1 arg2 harg2 arg3 harg3 arg4 harg4 arg5 harg5 arg6 harg6 arg7 harg7 arg8 harg8 arg9 harg9 arg10 harg10 hc (harg1.unread x0) k0_pay4 ⟨k, hk⟩, st_eq 𝒱 c bd i arg1 harg1 arg2 harg2 arg3 harg3 arg4 harg4 arg5 harg5 arg6 harg6 arg7 harg7 arg8 harg8 arg9 harg9 arg10 harg10 hc x0 k (Nat.le_of_succ_le hk)]
    unfold tripR_k0_t1 trip_k0_t1
    show k0_pay5 (accK x0 k) _ = k0_pay5 (accK x0 k) _
    exact congrArg _ (ld_rows8 harg1 x0 ⟨k, hk⟩ _)

/-- The rows of integer codes stored before trip `k` of the second loop. -/
theorem wq_eq (𝒱 : Variants) (c : Dev nD) (bd : Option 𝒱.V) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc : k0_cond1 i = 1#1) (x0 : Vec F S1024x2816 .f32) (G : BufTy.Contents (Elt F) arg5.view.ty) : ∀ k : ℕ, k ≤ k0_t2_loop.trips →
    ∀ y : S1024x2816.Idx, (y 0).val < 128 * k →
    arg5.view.read (Elt F) (arg5.view.writes (Elt F) G (pb_k0_t2 (F := F) 𝒱 c bd i arg1 harg1 arg2 harg2 arg3 harg3 arg4 harg4 arg5 harg5 arg6 harg6 arg7 harg7 arg8 harg8 arg9 harg9 arg10 harg10 hc (accK x0 128) (harg1.unread x0) k).1) y = wqV x0 y
  | 0, _, y, hy => by omega
  | k + 1, hk, y, hy => by
    rw [pb_k0_t2_succ 𝒱 c bd i arg1 harg1 arg2 harg2 arg3 harg3 arg4 harg4 arg5 harg5 arg6 harg6 arg7 harg7 arg8 harg8 arg9 harg9 arg10 harg10 hc (accK x0 128) (harg1.unread x0) ⟨k, hk⟩]
    unfold tripL_k0_t2 trip_k0_t2
    dsimp only [List.cons_append, List.nil_append]
    by_cases hc2 : 128 * k ≤ (y 0).val
    · refine (View.read_writes_cons_rows_of_mem (d := ![1024, 2816]) _ _ _ _ _ y (ix2 ⟨(y 0).val % 128, Nat.mod_lt _ (by decide)⟩ (y 1) : S128x2816.Idx) (k0_off2_eq ⟨k, hk⟩)
        (by show (y 0).val = 128 * k + (y 0).val % 128; omega) rfl).trans ?_
      have e : (y 0).val / 128 = k := by omega
      unfold wqV; rw [e]
      exact congrFun (congrArg _ (ld_rows128 harg1 x0 ⟨k, hk⟩ _)) _
    · refine (View.read_writes_cons_rows_of_not_mem (d := ![1024, 2816]) (W := 128) _ _ _ _ _ y (k0_off2_eq ⟨k, hk⟩) rfl (.inl (by show (y 0).val < 128 * k; omega))).trans ?_
      exact wq_eq 𝒱 c bd i arg1 harg1 arg2 harg2 arg3 harg3 arg4 harg4 arg5 harg5 arg6 harg6 arg7 harg7 arg8 harg8 arg9 harg9 arg10 harg10 hc x0 G k (Nat.le_of_succ_le hk) y (by omega)

/-- The rows of matrix-unit codes stored before trip `k` of the second loop. -/
theorem wb_eq (𝒱 : Variants) (c : Dev nD) (bd : Option 𝒱.V) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc : k0_cond1 i = 1#1) (x0 : Vec F S1024x2816 .f32) (G : BufTy.Contents (Elt F) arg9.view.ty) : ∀ k : ℕ, k ≤ k0_t2_loop.trips →
    ∀ y : S1024x2816.Idx, (y 0).val < 128 * k →
    arg9.view.read (Elt F) (arg9.view.writes (Elt F) G (pb_k0_t2 (F := F) 𝒱 c bd i arg1 harg1 arg2 harg2 arg3 harg3 arg4 harg4 arg5 harg5 arg6 harg6 arg7 harg7 arg8 harg8 arg9 harg9 arg10 harg10 hc (accK x0 128) (harg1.unread x0) k).2) y = wbV x0 y
  | 0, _, y, hy => by omega
  | k + 1, hk, y, hy => by
    rw [pb_k0_t2_succ 𝒱 c bd i arg1 harg1 arg2 harg2 arg3 harg3 arg4 harg4 arg5 harg5 arg6 harg6 arg7 harg7 arg8 harg8 arg9 harg9 arg10 harg10 hc (accK x0 128) (harg1.unread x0) ⟨k, hk⟩]
    unfold tripL_k0_t2 trip_k0_t2
    dsimp only [List.cons_append, List.nil_append]
    by_cases hc2 : 128 * k ≤ (y 0).val
    · refine (View.read_writes_cons_rows_of_mem (d := ![1024, 2816]) _ _ _ _ _ y (ix2 ⟨(y 0).val % 128, Nat.mod_lt _ (by decide)⟩ (y 1) : S128x2816.Idx) (k0_off2_eq ⟨k, hk⟩)
        (by show (y 0).val = 128 * k + (y 0).val % 128; omega) rfl).trans ?_
      have e : (y 0).val / 128 = k := by omega
      unfold wbV; rw [e]
      exact congrFun (congrArg _ (ld_rows128 harg1 x0 ⟨k, hk⟩ _)) _
    · refine (View.read_writes_cons_rows_of_not_mem (d := ![1024, 2816]) (W := 128) _ _ _ _ _ y (k0_off2_eq ⟨k, hk⟩) rfl (.inl (by show (y 0).val < 128 * k; omega))).trans ?_
      exact wb_eq 𝒱 c bd i arg1 harg1 arg2 harg2 arg3 harg3 arg4 harg4 arg5 harg5 arg6 harg6 arg7 harg7 arg8 harg8 arg9 harg9 arg10 harg10 hc x0 G k (Nat.le_of_succ_le hk) y (by omega)

end Cert.KernelIdeal.Hand
-- ==== Proof.KI.RunA.lean ====
/- The body's run at the first grid point, every buffer's contents named. -/
module

public import proofs.«01_k».proof.Proof.KI.LoopsA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first grid point the body computes the mean, the codes, the block of `y`, its activation codes and four rows of scales. -/
theorem runA (c : Dev nD) (i : grid0.Coords) (arg1 : Memref sig .tc .vmem S1024x2816 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x2816 .bf16) (harg4 : arg4.IsWhole) (arg5 : Memref sig .tc .vmem S1024x2816 .i8) (harg5 : arg5.IsWhole) (arg6 : Memref sig .tc .smem S1x1 .f32) (harg6 : arg6.IsWhole) (arg7 : Memref sig .tc .vmem S512x1024 .i8) (harg7 : arg7.IsWhole) (arg8 : Memref sig .tc .vmem S24x768 .f32) (harg8 : arg8.IsWhole) (arg9 : Memref sig .tc .vmem S1024x2816 .bf16) (harg9 : arg9.IsWhole) (arg10 : Memref sig .tc .vmem S144x128 .f32) (harg10 : arg10.IsWhole) (hc0 : cond0_0 i) (hc1 : ¬cond0_1 i)
    (x0 : Vec F S1024x2816 .f32) (x1 : Vec F S1x1024 .f32) (x2 : Vec F S512x1024 .bf16) (s : Vec F S144x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg9 fullShare d) ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare (yV x1 x2 (gam x0) (wbV x0)) ∗ owns (c : Thread nD τ) arg5 fullShare (wqV x0) ∗ owns (c : Thread nD τ) arg6 fullShare (gamV x0) ∗ owns (c : Thread nD τ) arg7 fullShare (k0_pay13 x2 x1) ∗ owns (c : Thread nD τ) arg9 fullShare (wbV x0) ∗ owns (c : Thread nD τ) arg10 fullShare (rowsV (i 0).val (k0_pay11 x2 x1) s)) -∗ K ⟨⟩))
          ⊢ wp frame (wpE (defs₀ (F := F)) Variants.none c none) E (cc0_bitlinear i arg1 harg1 arg2 harg2 arg3 harg3 arg4 harg4 arg5 harg5 arg6 harg6 arg7 harg7 arg8 harg8 arg9 harg9 arg10 harg10) K := by
    intro E K
    simp only [cc0_bitlinear_eq_skeleton]; unfold cc0_bitlinear_skel
    simp only [k0_part1_eq_skeleton, k0_part2_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d9, %f9, -, H9⟩, ⟨%f10, %hf10, H10⟩, Hk⟩
    obtain rfl := harg1.eq_unread hf1; obtain rfl := harg2.eq_unread hf2; obtain rfl := harg3.eq_unread hf3; obtain rfl := harg10.eq_unread hf10
    sl_exec (disch := first | sl_exact hc0 | sl_exact hc1)
    sl_step
    have hg2 : View.readAt (Elt F) arg2.view (Rect.unit ![0, 0] S1x1024.size inb_S1x1024_S1x1024_0_0).toLoadRect (harg2.unread x1) = x1 := (View.readAt_full _ _ _).trans (harg2.read_unread _)
    have hg3 : View.readAt (Elt F) arg3.view (Rect.unit ![0, 0] S512x1024.size inb_S512x1024_S512x1024_0_0).toLoadRect (harg3.unread x2) = x2 := (View.readAt_full _ _ _).trans (harg3.read_unread _)
    sl_unfold_run_names
    have hst : st_k0_t1 (F := F) Variants.none c none i arg1 harg1 arg2 harg2 arg3 harg3 arg4 harg4 arg5 harg5 arg6 harg6 arg7 harg7 arg8 harg8 arg9 harg9 arg10 harg10 hc0 (harg1.unread x0) k0_pay4 (Scf.trips k0_t1_loop.lb k0_t1_loop.ub k0_t1_loop.st) = accK x0 128 :=
      (st_eq Variants.none c none i arg1 harg1 arg2 harg2 arg3 harg3 arg4 harg4 arg5 harg5 arg6 harg6 arg7 harg7 arg8 harg8 arg9 harg9 arg10 harg10 hc0 x0 _ (Nat.le_refl _)).trans (congrArg (accK x0) (by decide +kernel))
    have ht2 : Scf.trips k0_t2_loop.lb k0_t2_loop.ub k0_t2_loop.st = 8 := by decide +kernel
    have hle : Scf.trips k0_t2_loop.lb k0_t2_loop.ub k0_t2_loop.st ≤ k0_t2_loop.trips := Nat.le_refl _
    have hw9 : arg9.view.read (Elt F) (arg9.view.writes (Elt F) f9 (pb_k0_t2 (F := F) Variants.none c none i arg1 harg1 arg2 harg2 arg3 harg3 arg4 harg4 arg5 harg5 arg6 harg6 arg7 harg7 arg8 harg8 arg9 harg9 arg10 harg10 hc0 (accK x0 128) (harg1.unread x0) (Scf.trips k0_t2_loop.lb k0_t2_loop.ub k0_t2_loop.st)).2) = wbV x0 :=
      funext fun y => wb_eq Variants.none c none i arg1 harg1 arg2 harg2 arg3 harg3 arg4 harg4 arg5 harg5 arg6 harg6 arg7 harg7 arg8 harg8 arg9 harg9 arg10 harg10 hc0 x0 f9 _ hle y (by have := (y 0).isLt; rw [ht2]; exact this)
    have hw5 : arg5.view.read (Elt F) (arg5.view.writes (Elt F) f5 (pb_k0_t2 (F := F) Variants.none c none i arg1 harg1 arg2 harg2 arg3 harg3 arg4 harg4 arg5 harg5 arg6 harg6 arg7 harg7 arg8 harg8 arg9 harg9 arg10 harg10 hc0 (accK x0 128) (harg1.unread x0) (Scf.trips k0_t2_loop.lb k0_t2_loop.ub k0_t2_loop.st)).1) = wqV x0 :=
      funext fun y => wq_eq Variants.none c none i arg1 harg1 arg2 harg2 arg3 harg3 arg4 harg4 arg5 harg5 arg6 harg6 arg7 harg7 arg8 harg8 arg9 harg9 arg10 harg10 hc0 x0 f5 _ hle y (by have := (y 0).isLt; rw [ht2]; exact this)
    rw [hst]
    iapply Hk
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact (View.read_writes_full _ _ _ _ _).trans (by rw [hg2, hg3, View.readAt_full, hw9]; rfl)
    isplitl [H5]
    · iexists _; isplitr; swap; · iexact H5
      ipureintro; exact hw5
    isplitl [H6]
    · iexists _; isplitr; swap; · iexact H6
      ipureintro; exact (View.read_writes_full _ _ _ _ _).trans rfl
    isplitl [H7]
    · iexists _; isplitr; swap; · iexact H7
      ipureintro; exact (View.read_writes_full _ _ _ _ _).trans (by rw [hg2, hg3])
    isplitl [H9]
    · iexists _; isplitr; swap; · iexact H9
      ipureintro; exact hw9
    iexists _; isplitr; swap; · iexact H10
    ipureintro; exact by rw [hg2, hg3]; exact read_rows harg10 i s _ _ _ _ _

end Cert.KernelIdeal.Hand
-- ==== Proof.KI.Data.lean ====
/- The proof data of the idealized kernel's pipeline, with every window's contents named, its body obligation and its run. -/
module

public import proofs.«01_k».proof.Proof.KI.RunA
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the pipeline reads, and what it computes from them -/

/-- The first grid point. -/
abbrev t0 : Fin cfg0.N := ⟨0, by decide⟩

/-- The weight, as the region finds it. -/
def Wt (c : Dev nD) : Vec F S1024x2816 .f32 := iblk m c 0 t0

/-- The vector of activation multipliers, as the region finds it. -/
def Gt (c : Dev nD) : Vec F S1x1024 .f32 := iblk m c 1 t0

/-- The weight window's block is the whole weight at every grid point. -/
theorem iblk_w (c : Dev nD) (t : Fin cfg0.N) : iblk m c 0 t = Wt m c := rfl

/-- The multiplier window's block is the whole vector at every grid point. -/
theorem iblk_g (c : Dev nD) (t : Fin cfg0.N) : iblk m c 1 t = Gt m c := rfl

/-- The activation block of grid point `n`. -/
def Xt (c : Dev nD) (n : ℕ) : Vec F S512x1024 .bf16 := iblk m c 2 ⟨n % 36, Nat.mod_lt _ (by decide)⟩

/-- It is the window's block at every grid point. -/
theorem iblk_x (c : Dev nD) (t : Fin cfg0.N) : iblk m c 2 t = Xt m c t.val := by
  have h : t.val % 36 = t.val := Nat.mod_eq_of_lt (lt_of_lt_of_eq t.isLt (show cfg0.N = 36 from N_0))
  have e : ∀ u : Fin cfg0.N, u = t → (iblk m c 2 t : Vec F S512x1024 .bf16) = iblk m c 2 u := fun u hu => by subst hu; rfl
  exact e ⟨t.val % 36, Nat.mod_lt _ (by decide)⟩ (Fin.ext h)

/-- The column of activation scales of grid point `n`. -/
def Sc (c : Dev nD) (n : ℕ) : FVec F S512x1 .f32 := k0_pay11 (Xt m c n) (Gt m c)

/-- The column spelled over the block. -/
theorem Sc_eq (c : Dev nD) (n : ℕ) : k0_pay11 (Xt m c n) (Gt m c) = Sc m c n := rfl

/-- The scratch of scales once every grid point has run. -/
def scal (c : Dev nD) : Vec F S144x128 .f32 := fun y =>
  rowsV ((y 0).val / 4) (Sc m c ((y 0).val / 4)) (fun _ => Sc m c 0 (ix2 0 0)) y

/-- The scratch of scales before grid point `n`: the rows of the points before it are final. -/
def SInv (c : Dev nD) (n : ℕ) (s : Vec F S144x128 .f32) : Prop := ∀ y : S144x128.Idx, (y 0).val < 4 * n → s y = scal m c y

/-- A grid point extends the final rows by its four. -/
theorem SInv_step (c : Dev nD) (n : ℕ) (s : Vec F S144x128 .f32) (h : SInv m c n s) :
    SInv m c (n + 1) (rowsV n (Sc m c n) s) := fun y hy => by
  by_cases hlt : (y 0).val < 4 * n
  · rw [← h y hlt]; unfold rowsV
    rw [if_neg (by omega), if_neg (by omega), if_neg (by omega), if_neg (by omega)]
  · have e : (y 0).val / 4 = n := by omega
    unfold scal; rw [e]; unfold rowsV
    by_cases c3 : (y 0).val = 4 * n + 3
    · rw [if_pos c3, if_pos c3]
    by_cases c2 : (y 0).val = 4 * n + 2
    · rw [if_neg c3, if_neg c3, if_pos c2, if_pos c2]
    by_cases c1 : (y 0).val = 4 * n + 1
    · rw [if_neg c3, if_neg c3, if_neg c2, if_neg c2, if_pos c1, if_pos c1]
    rw [if_neg c3, if_neg c3, if_neg c2, if_neg c2, if_neg c1, if_neg c1, if_pos (by omega), if_pos (by omega)]

/-- After the last grid point the scratch is final. -/
theorem SInv_last (c : Dev nD) (s : Vec F S144x128 .f32) (h : SInv m c 36 s) : s = scal m c :=
  funext fun y => h y (by have : (y 0).val < 144 := (y 0).isLt; omega)

/-! ## The proof data -/

/-- What the body carries from grid point to grid point: the codes once the first point has run, the final rows of
    scales so far, and the generator register. -/
def Inv (c : Dev nD) (n : ℕ) : sProp 𝕄 :=
  iprop((∃ w, ⌜n ≠ 0 → w = wbV (Wt m c)⌝ ∗ owns (c : Thread nD τ) scM0_0 fullShare w)
    ∗ (∃ s, ⌜SInv m c n s⌝ ∗ owns (c : Thread nD τ) scM0_1 fullShare s) ∗ (∃ r, prngReg c r))

/-- The proof data of the pipeline: the arrays as the region finds them, and each window's contents after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yV (Gt m c) (Xt m c t.val) (gam (Wt m c)) (wbV (Wt m c))
    | ⟨4, _⟩ => wqV (Wt m c)
    | ⟨5, _⟩ => gamV (Wt m c)
    | ⟨6, _⟩ => k0_pay13 (Xt m c t.val) (Gt m c)
    | ⟨7, _⟩ => xsV (scal m c)
  Φ t := Inv m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- Window 0 is left at its block. -/
theorem after0_0 (c : Dev nD) (t : Fin cfg0.N) : (dats m 0 c).after 0 t = iblk m c 0 t := by dsimp only [dats]
/-- Window 1 is left at its block. -/
theorem after0_1 (c : Dev nD) (t : Fin cfg0.N) : (dats m 0 c).after 1 t = iblk m c 1 t := by dsimp only [dats]
/-- Window 2 is left at its block. -/
theorem after0_2 (c : Dev nD) (t : Fin cfg0.N) : (dats m 0 c).after 2 t = iblk m c 2 t := by dsimp only [dats]
/-- Window 3 is left at the block of `y`. -/
theorem after0_3 (c : Dev nD) (t : Fin cfg0.N) : (dats m 0 c).after 3 t = yV (Gt m c) (Xt m c t.val) (gam (Wt m c)) (wbV (Wt m c)) := by dsimp only [dats]
/-- Window 4 is left at the weight codes. -/
theorem after0_4 (c : Dev nD) (t : Fin cfg0.N) : (dats m 0 c).after 4 t = wqV (Wt m c) := by dsimp only [dats]
/-- Window 5 is left at the mean. -/
theorem after0_5 (c : Dev nD) (t : Fin cfg0.N) : (dats m 0 c).after 5 t = gamV (Wt m c) := by dsimp only [dats]
/-- Window 6 is left at the block of activation codes. -/
theorem after0_6 (c : Dev nD) (t : Fin cfg0.N) : (dats m 0 c).after 6 t = k0_pay13 (Xt m c t.val) (Gt m c) := by dsimp only [dats]
/-- Window 7 is left at the scales. -/
theorem after0_7 (c : Dev nD) (t : Fin cfg0.N) : (dats m 0 c).after 7 t = xsV (scal m c) := by dsimp only [dats]

/-- The body finds window 0 at its block. -/
theorem before0_0 (c : Dev nD) (t : Fin cfg0.N) (d) : (dats m 0 c).before 0 t d = iblk m c 0 t :=
  before0_0_of m (dats m 0 c) (A_eq m c 0) (after0_0 m c) t d
/-- The body finds window 1 at its block. -/
theorem before0_1 (c : Dev nD) (t : Fin cfg0.N) (d) : (dats m 0 c).before 1 t d = iblk m c 1 t :=
  before0_1_of m (dats m 0 c) (A_eq m c 1) (after0_1 m c) t d
/-- The body finds window 2 at its block. -/
theorem before0_2 (c : Dev nD) (t : Fin cfg0.N) (d) : (dats m 0 c).before 2 t d = iblk m c 2 t :=
  before0_2_of m (dats m 0 c) (A_eq m c 2) (after0_2 m c) t d

/-- Window 4 is idle but at the first point. -/
theorem idle_4 (t : Fin cfg0.N) : cfg0.idle 4 (grid0.coords t) = !(k0_cond1 (grid0.coords t) == 1#1) := rfl
/-- Window 5 is idle but at the first point. -/
theorem idle_5 (t : Fin cfg0.N) : cfg0.idle 5 (grid0.coords t) = !(k0_cond1 (grid0.coords t) == 1#1) := rfl
/-- Window 7 is idle but at the last point. -/
theorem idle_7 (t : Fin cfg0.N) : cfg0.idle 7 (grid0.coords t) = !(k0_cond2 (grid0.coords t) == 1#1) := rfl

/-- A window of the first point's condition is not fresh after the first point. -/
theorem fresh_first (w : Fin cfg0.W) (hi : ∀ t : Fin cfg0.N, cfg0.idle w (grid0.coords t) = !(k0_cond1 (grid0.coords t) == 1#1))
    (hf : ∀ t : Fin cfg0.N, (cfg0.win w).flush t = true ↔ t.val % 36 = 35) (n : ℕ) (h : n < cfg0.N) (hn : n ≠ 0) : cfg0.fresh w n = false := by
  have hN : cfg0.N = 36 := N_0
  induction n with
  | zero => exact absurd rfl hn
  | succ k ih =>
    have hk : k < cfg0.N := Nat.lt_of_succ_lt h
    rw [Pipeline.Cfg.fresh_succ cfg0 w k hk]
    have e1 : (cfg0.win w).flush ⟨k, hk⟩ = false := by
      rw [Bool.eq_false_iff]; intro hh; have h2 : k % 36 = 35 := (hf ⟨k, hk⟩).mp hh; omega
    rw [e1, Bool.false_or]
    by_cases h0 : k = 0
    · have e2 : cfg0.idle w (grid0.coords ⟨k, hk⟩) = false := by
        rw [hi, (hcond0_0 ⟨k, hk⟩).mpr (by show k % 36 = 0; omega)]; rfl
      rw [show cfg0.idle w (cfg0.grid.coords ⟨k, hk⟩) = false from e2, Bool.false_and]
    · rw [ih hk h0, Bool.and_false]

/-- After the first point the body finds window 4 at the weight codes. -/
theorem before0_4 (c : Dev nD) (t : Fin cfg0.N) (ht : t.val ≠ 0) (d) : (dats m 0 c).before 4 t d = wqV (Wt m c) := by
  rw [(dats m 0 c).before_out_traj 4 rfl (fun _ _ => rfl) (fun t _ _ _ => by rw [after0_4, after0_4]) t.val t rfl d,
    fresh_first 4 idle_4 flush0_4 t.val t.isLt ht, if_neg Bool.false_ne_true, after0_4]

/-- After the first point the body finds window 5 at the mean. -/
theorem before0_5 (c : Dev nD) (t : Fin cfg0.N) (ht : t.val ≠ 0) (d) : (dats m 0 c).before 5 t d = gamV (Wt m c) := by
  rw [(dats m 0 c).before_out_traj 5 rfl (fun _ _ => rfl) (fun t _ _ _ => by rw [after0_5, after0_5]) t.val t rfl d,
    fresh_first 5 idle_5 flush0_5 t.val t.isLt ht, if_neg Bool.false_ne_true, after0_5]

/-! ## The body obligation -/

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

attribute [irreducible] Wt Gt Xt Sc scal

set_option maxHeartbeats 400000 in
/-- The body at any grid point: the case its branch conditions select applies, with the invariant's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  have hN : t.val < 36 := lt_of_lt_of_eq t.isLt (show cfg0.N = 36 from N_0)
  have hco : (grid0.coords t 0).val = t.val :=
    (show (grid0.coords t 0).val = t.val / 1 % 36 from Pipeline.Grid.coords_val (G := grid0) t 0 (by decide) rfl).trans (by omega)
  have hsc := Sc_eq m c t.val
  simp only [iblk_w, iblk_g, iblk_x]
  by_cases h0 : t.val % 36 = 0
  · by_cases h1 : t.val % 36 = 35
    · exfalso; omega
    · have hi4 : cfg0.idle 4 (grid0.coords t) = false := by rw [idle_4]; rw [(hcond0_0 t).mpr h0]; rfl
      have hi5 : cfg0.idle 5 (grid0.coords t) = false := by rw [idle_5]; rw [(hcond0_0 t).mpr h0]; rfl
      have hi7 : cfg0.idle 7 (grid0.coords t) = true := by rw [idle_7]; rw [beq_eq_false_iff_ne.mpr (fun h => h1 ((hcond0_1 t).mp h))]; rfl
      have hf4 : (cfg0.win 4).flush t = false := Bool.eq_false_iff.mpr fun h => h1 ((flush0_4 t).mp h)
      have hf5 : (cfg0.win 5).flush t = false := Bool.eq_false_iff.mpr fun h => h1 ((flush0_5 t).mp h)
      have hf7 : (cfg0.win 7).flush t = false := Bool.eq_false_iff.mpr fun h => h1 ((flush0_7 t).mp h)
      rw [show (dats m 0 c).leavesExact 0 t = owns (c : Thread nD τ) (ms0_0 t) fullShare ((dats m 0 c).after 0 t) from by
        unfold Dat.leavesExact; rw [show cfg0.idle 0 (grid0.coords t) = false from rfl], after0_0, iblk_w]
      rw [show (dats m 0 c).leavesExact 1 t = owns (c : Thread nD τ) (ms0_1 t) fullShare ((dats m 0 c).after 1 t) from by
        unfold Dat.leavesExact; rw [show cfg0.idle 1 (grid0.coords t) = false from rfl], after0_1, iblk_g]
      rw [show (dats m 0 c).leavesExact 2 t = owns (c : Thread nD τ) (ms0_2 t) fullShare ((dats m 0 c).after 2 t) from by
        unfold Dat.leavesExact; rw [show cfg0.idle 2 (grid0.coords t) = false from rfl], after0_2, iblk_x]
      rw [show (dats m 0 c).leavesExact 3 t = owns (c : Thread nD τ) (ms0_3 t) fullShare ((dats m 0 c).after 3 t) from by
        unfold Dat.leavesExact; rw [show cfg0.idle 3 (grid0.coords t) = false from rfl], after0_3]
      rw [show (dats m 0 c).leavesExact 6 t = owns (c : Thread nD τ) (ms0_6 t) fullShare ((dats m 0 c).after 6 t) from by
        unfold Dat.leavesExact; rw [show cfg0.idle 6 (grid0.coords t) = false from rfl], after0_6]
      rw [show (dats m 0 c).leavesExact 4 t = owns (c : Thread nD τ) (ms0_4 t) fullShare ((dats m 0 c).after 4 t) from by
        unfold Dat.leavesExact; rw [show cfg0.idle 4 (grid0.coords t) = false from hi4], after0_4]
      rw [show (dats m 0 c).leavesExact 5 t = owns (c : Thread nD τ) (ms0_5 t) fullShare ((dats m 0 c).after 5 t) from by
        unfold Dat.leavesExact; rw [show cfg0.idle 5 (grid0.coords t) = false from hi5], after0_5]
      rw [(dats m 0 c).leavesExact_idle 7 t hi7 hf7]
      iintro ⟨⟨⟨%w, %hw, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ _ _ ((hcond0_0 t).mpr h0) (fun h => h1 ((hcond0_1 t).mp h)) (Wt m c) (Gt m c) (Xt m c t.val) s) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexists _; iexact HS0
      isplitl [HS1]; · iexact HS1
      iintro ⟨H0, H1, H2, H3, H4, H5, H6, HS0, HS1⟩
      isplitl [HS0 HS1 Hg]
      · isplitl [HS0]
        · iexists _; isplitr; swap; · iexact HS0
          ipureintro; exact fun _ => rfl
        isplitl [HS1]
        · iexists _; isplitr; swap; · iexact HS1
          ipureintro; rw [hco, hsc]; exact SInv_step m c t.val s hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
  · have hn0 : t.val ≠ 0 := by omega
    by_cases h1 : t.val % 36 = 35
    · have hi4 : cfg0.idle 4 (grid0.coords t) = true := by rw [idle_4]; rw [beq_eq_false_iff_ne.mpr (fun h => h0 ((hcond0_0 t).mp h))]; rfl
      have hi5 : cfg0.idle 5 (grid0.coords t) = true := by rw [idle_5]; rw [beq_eq_false_iff_ne.mpr (fun h => h0 ((hcond0_0 t).mp h))]; rfl
      have hi7 : cfg0.idle 7 (grid0.coords t) = false := by rw [idle_7]; rw [(hcond0_1 t).mpr h1]; rfl
      have hf4 : (cfg0.win 4).flush t = true := (flush0_4 t).mpr h1
      have hf5 : (cfg0.win 5).flush t = true := (flush0_5 t).mpr h1
      have hf7 : (cfg0.win 7).flush t = true := (flush0_7 t).mpr h1
      rw [show (dats m 0 c).leavesExact 0 t = owns (c : Thread nD τ) (ms0_0 t) fullShare ((dats m 0 c).after 0 t) from by
        unfold Dat.leavesExact; rw [show cfg0.idle 0 (grid0.coords t) = false from rfl], after0_0, iblk_w]
      rw [show (dats m 0 c).leavesExact 1 t = owns (c : Thread nD τ) (ms0_1 t) fullShare ((dats m 0 c).after 1 t) from by
        unfold Dat.leavesExact; rw [show cfg0.idle 1 (grid0.coords t) = false from rfl], after0_1, iblk_g]
      rw [show (dats m 0 c).leavesExact 2 t = owns (c : Thread nD τ) (ms0_2 t) fullShare ((dats m 0 c).after 2 t) from by
        unfold Dat.leavesExact; rw [show cfg0.idle 2 (grid0.coords t) = false from rfl], after0_2, iblk_x]
      rw [show (dats m 0 c).leavesExact 3 t = owns (c : Thread nD τ) (ms0_3 t) fullShare ((dats m 0 c).after 3 t) from by
        unfold Dat.leavesExact; rw [show cfg0.idle 3 (grid0.coords t) = false from rfl], after0_3]
      rw [show (dats m 0 c).leavesExact 6 t = owns (c : Thread nD τ) (ms0_6 t) fullShare ((dats m 0 c).after 6 t) from by
        unfold Dat.leavesExact; rw [show cfg0.idle 6 (grid0.coords t) = false from rfl], after0_6]
      rw [show (dats m 0 c).leavesExact 4 t = owns (c : Thread nD τ) (ms0_4 t) fullShare ((dats m 0 c).after 4 t) from by
        unfold Dat.leavesExact; rw [show cfg0.idle 4 (grid0.coords t) = true from hi4, show (cfg0.win 4).flush t = true from hf4], after0_4]
      rw [show (dats m 0 c).leavesExact 5 t = owns (c : Thread nD τ) (ms0_5 t) fullShare ((dats m 0 c).after 5 t) from by
        unfold Dat.leavesExact; rw [show cfg0.idle 5 (grid0.coords t) = true from hi5, show (cfg0.win 5).flush t = true from hf5], after0_5]
      rw [show (dats m 0 c).leavesExact 7 t = owns (c : Thread nD τ) (ms0_7 t) fullShare ((dats m 0 c).after 7 t) from by
        unfold Dat.leavesExact; rw [show cfg0.idle 7 (grid0.coords t) = false from hi7], after0_7]
      iintro ⟨⟨⟨%w, %hw, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hw hn0
      rw [before0_4 m c t hn0 d4, before0_5 m c t hn0 d5]
      iapply ((runC c (grid0.coords t) _ _ _ _ _ _ _ _ _ _ _ _ _ _ _ _ _ _ _ _ (fun h => h0 ((hcond0_0 t).mp h)) ((hcond0_1 t).mpr h1) (Wt m c) (Gt m c) (Xt m c t.val) (gamV (Wt m c)) (wbV (Wt m c)) s) Set.univ _)
      isplitl [H0]; · iexact H0
      isplitl [H1]; · iexact H1
      isplitl [H2]; · iexact H2
      isplitl [H3]; · iexists _; iexact H3
      isplitl [H5]; · iexact H5
      isplitl [H6]; · iexists _; iexact H6
      isplitl [H7]; · iexists _; iexact H7
      isplitl [HS0]; · iexact HS0
      isplitl [HS1]; · iexact HS1
      iintro ⟨H0, H1, H2, H3, H5, H6, H7, HS0, HS1⟩
      isplitl [HS0 HS1 Hg]
      · isplitl [HS0]
        · iexists _; isplitr; swap; · iexact HS0
          ipureintro; exact fun _ => rfl
        isplitl [HS1]
        · iexists _; isplitr; swap; · iexact HS1
          ipureintro; rw [hco, hsc]; exact SInv_step m c t.val s hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      rw [show xsV (scal m c) = xsV (rowsV (grid0.coords t 0).val (k0_pay11 (Xt m c t.val) (Gt m c)) s) from congrArg xsV (SInv_last m c _ (by
        rw [hco, hsc]; have := SInv_step m c t.val s hs; rwa [show t.val + 1 = 36 by omega] at this)).symm]
      iexact H7
    · have hi4 : cfg0.idle 4 (grid0.coords t) = true := by rw [idle_4]; rw [beq_eq_false_iff_ne.mpr (fun h => h0 ((hcond0_0 t).mp h))]; rfl
      have hi5 : cfg0.idle 5 (grid0.coords t) = true := by rw [idle_5]; rw [beq_eq_false_iff_ne.mpr (fun h => h0 ((hcond0_0 t).mp h))]; rfl
      have hi7 : cfg0.idle 7 (grid0.coords t) = true := by rw [idle_7]; rw [beq_eq_false_iff_ne.mpr (fun h => h1 ((hcond0_1 t).mp h))]; rfl
      have hf4 : (cfg0.win 4).flush t = false := Bool.eq_false_iff.mpr fun h => h1 ((flush0_4 t).mp h)
      have hf5 : (cfg0.win 5).flush t = false := Bool.eq_false_iff.mpr fun h => h1 ((flush0_5 t).mp h)
      have hf7 : (cfg0.win 7).flush t = false := Bool.eq_false_iff.mpr fun h => h1 ((flush0_7 t).mp h)
      rw [show (dats m 0 c).leavesExact 0 t = owns (c : Thread nD τ) (ms0_0 t) fullShare ((dats m 0 c).after 0 t) from by
        unfold Dat.leavesExact; rw [show cfg0.idle 0 (grid0.coords t) = false from rfl], after0_0, iblk_w]
      rw [show (dats m 0 c).leavesExact 1 t = owns (c : Thread nD τ) (ms0_1 t) fullShare ((dats m 0 c).after 1 t) from by
        unfold Dat.leavesExact; rw [show cfg0.idle 1 (grid0.coords t) = false from rfl], after0_1, iblk_g]
      rw [show (dats m 0 c).leavesExact 2 t = owns (c : Thread nD τ) (ms0_2 t) fullShare ((dats m 0 c).after 2 t) from by
        unfold Dat.leavesExact; rw [show cfg0.idle 2 (grid0.coords t) = false from rfl], after0_2, iblk_x]
      rw [show (dats m 0 c).leavesExact 3 t = owns (c : Thread nD τ) (ms0_3 t) fullShare ((dats m 0 c).after 3 t) from by
        unfold Dat.leavesExact; rw [show cfg0.idle 3 (grid0.coords t) = false from rfl], after0_3]
      rw [show (dats m 0 c).leavesExact 6 t = owns (c : Thread nD τ) (ms0_6 t) fullShare ((dats m 0 c).after 6 t) from by
        unfold Dat.leavesExact; rw [show cfg0.idle 6 (grid0.coords t) = false from rfl], after0_6]
      rw [(dats m 0 c).leavesExact_idle 4 t hi4 hf4]
      rw [(dats m 0 c).leavesExact_idle 5 t hi5 hf5]
      rw [(dats m 0 c).leavesExact_idle 7 t hi7 hf7]
      iintro ⟨⟨⟨%w, %hw, HS0⟩, ⟨%s, %hs, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hw hn0
      rw [before0_4 m c t hn0 d4, before0_5 m c t hn0 d5]
      iapply ((runB c (grid0.coords t) _ _ _ _ _ _ _ _ _ _ _ _ _ _ _ _ _ _ _ _ (fun h => h0 ((hcond0_0 t).mp h)) (fun h => h1 ((hcond0_1 t).mp h)) (Wt m c) (Gt m c) (Xt m c t.val) (gamV (Wt m c)) (wbV (Wt m c)) s) Set.univ _)
      isplitl [H0]; · iexact H0
      isplitl [H1]; · iexact H1
      isplitl [H2]; · iexact H2
      isplitl [H3]; · iexists _; iexact H3
      isplitl [H5]; · iexact H5
      isplitl [H6]; · iexists _; iexact H6
      isplitl [HS0]; · iexact HS0
      isplitl [HS1]; · iexact HS1
      iintro ⟨H0, H1, H2, H3, H5, H6, HS0, HS1⟩
      isplitl [HS0 HS1 Hg]
      · isplitl [HS0]
        · iexists _; isplitr; swap; · iexact HS0
          ipureintro; exact fun _ => rfl
        isplitl [HS1]
        · iexists _; isplitr; swap; · iexact HS1
          ipureintro; rw [hco, hsc]; exact SInv_step m c t.val s hs
        iexact Hg
      isplitl [Ho]; · iexact Ho
      isplitl [H0]; · iexact H0
      isplitl [H1]; · iexact H1
      isplitl [H2]; · iexact H2
      isplitl [H3]; · iexact H3
      isplitl [H4]; · iexists d4; rw [before0_4 m c t hn0 d4]; iexact H4
      isplitl [H5]; · iexists d5; rw [before0_5 m c t hn0 d5]; iexact H5
      isplitl [H6]; · iexact H6
      iexists d7; iexact H7

/-- The body table's row at a grid point is the body. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first grid point nothing is known of the scratch. -/
theorem inv_in (c : Dev nD) : Pipeline.ΦA spec0 c ⊢ Inv (F := F) m c 0 := by
  rw [PhiA0_eq]; unfold Inv
  iintro ⟨⟨⟨%w, HS0⟩, ⟨%s, HS1⟩⟩, Hg⟩
  isplitl [HS0]
  · iexists _; isplitr; swap; · iexact HS0
    ipureintro; exact fun h => absurd rfl h
  isplitl [HS1]
  · iexists _; isplitr; swap; · iexact HS1
    ipureintro; exact fun y hy => absurd hy (by omega)
  iexact Hg

/-- After the last grid point the scratch is forgotten. -/
theorem inv_out (c : Dev nD) (n : ℕ) : Inv (F := F) m c n ⊢ Pipeline.ΦA spec0 c := by
  rw [PhiA0_eq]; unfold Inv
  iintro ⟨⟨%w, %hw, HS0⟩, ⟨%s, %hs, HS1⟩, Hg⟩
  isplitl [HS0 HS1]
  · isplitl [HS0]
    · iexists _; iexact HS0
    iexists _; iexact HS1
  iexact Hg

set_option backward.isDefEq.respectTransparency.types false in
/-- The launch: every array ends at what the proof data names, and every counter ends at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := fun c => inv_out m c _)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.KI.Blocks.lean ====
/- The pipeline's input blocks, as parts of the argument arrays. -/
module

public import proofs.«01_k».proof.Proof.KI.Data
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices at every grid point. -/
theorem idx : ∀ t : Fin cfg0.N, win0_0.index t = ![0, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0] ∧ win0_7.index t = ![0, 0] :=
  (by decide +kernel : ∀ t : Fin grid0.N, _)

/-- The weight is the second argument. -/
theorem Wt_apply (c : Dev nD) (k : Fin 1024) (l : Fin 2816) : Wt m c (ix2 k l) = m ((c : Thread nD τ).loc main_arg1) (ix2 k l) := by
  rw [← iblk_w m c t0]
  blk_ext [iblk, V, idx t0]

/-- The multipliers are the third argument. -/
theorem Gt_apply (c : Dev nD) (k : Fin 1024) : Gt m c (ix2 0 k) = m ((c : Thread nD τ).loc main_arg2) (ix1 k) := by
  rw [← iblk_g m c t0]
  have e : ((cfg0.win 1).blk t0).view.emb (ix2 0 k : S1x1024.Idx) = (ix2 0 k : S1x1024.Idx) := by blk_ext [idx t0]
  show V m c main_v0 (((cfg0.win 1).blk t0).view.emb (ix2 0 k : S1x1024.Idx)) = _
  rw [e]
  entry_read
  pointwise

/-- Row `r` of block `t` is the row of the first argument at `512 t + r`, counting through. -/
theorem Xt_apply (c : Dev nD) (t : Fin cfg0.N) (r : Fin 512) (b : Fin 24) (s : Fin 768) (h : 512 * t.val + r.val = 768 * b.val + s.val) (k : Fin 1024) :
    Xt m c t.val (ix2 r k) = m ((c : Thread nD τ).loc main_arg0) (ix3 b s k) := by
  rw [← iblk_x m c t]
  have hn : 512 * t.val + r.val < 18432 := by omega
  have e : ((cfg0.win 2).blk t).view.emb (ix2 r k : S512x1024.Idx) = (ix2 ⟨512 * t.val + r.val, hn⟩ k : S18432x1024.Idx) := by blk_ext [idx t]
  have eb : (⟨(512 * t.val + r.val) / 768, by omega⟩ : Fin 24) = b := Fin.ext (by show (512 * t.val + r.val) / 768 = b.val; omega)
  have es : (⟨(512 * t.val + r.val) % 768, by omega⟩ : Fin 768) = s := Fin.ext (by show (512 * t.val + r.val) % 768 = s.val; omega)
  show V m c main_v1 (((cfg0.win 2).blk t).view.emb (ix2 r k : S512x1024.Idx)) = _
  rw [e]
  entry_read
  pointwise [eb, es]

end Cert.KernelIdeal.Hand
-- ==== Proof.Pure.Ref.lean ====
/- The reference's result arrays over the argument arrays, the loads of whole blocks read off. -/
module

public import proofs.«01_k».proof.Proof.Gen.ReferenceIdeal.Value

@[expose] public section

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F] (a0 : Vec F S24x768x1024 .bf16) (a1 : Vec F S1024x2816 .f32) (a2 : Vec F S1024 .f32)

/-- A rectangle that starts at the origin of a matrix. -/
theorem z2 : (![0, 0] : Fin 2 → ℕ) = fun _ => 0 := by funext a; fin_cases a <;> rfl
/-- A rectangle that starts at the origin of a rank-3 array. -/
theorem z3 : (![0, 0, 0] : Fin 3 → ℕ) = fun _ => 0 := by funext a; fin_cases a <;> rfl
/-- A rectangle that starts at the origin of a vector. -/
theorem z1 : (![0] : Fin 1 → ℕ) = fun _ => 0 := by funext a; fin_cases a; rfl

/-- The weight codes read the whole weight. -/
theorem codes_w : k0_pay10 a0 a1 a2 = k0_pay6 a1 := by
  unfold k0_pay10; rw [View.ld_unit_zero (S := S1024x2816) z2 _ a1]

/-- The normalised activations read the whole activations and multipliers. -/
theorem norm_x : k0_pay11 a0 a1 a2 = k0_pay7 a0 a2 := by
  unfold k0_pay11; rw [View.ld_unit_zero (S := S24x768x1024) z3 _ a0, View.ld_unit_zero (S := S1024) z1 _ a2]

/-- So do the scales. -/
theorem scale_x : k0_pay12 a0 a1 a2 = k0_pay8 a0 a2 := by
  unfold k0_pay12; rw [View.ld_unit_zero (S := S24x768x1024) z3 _ a0, View.ld_unit_zero (S := S1024) z1 _ a2]

/-- So do the spread scales. -/
theorem spread_x : k0_pay13 a0 a1 a2 = k0_pay9 a0 a2 := by
  unfold k0_pay13; rw [View.ld_unit_zero (S := S24x768x1024) z3 _ a0, View.ld_unit_zero (S := S1024) z1 _ a2]

end Cert.ReferenceIdeal.Hand
-- ==== Proof.Pure.Quant.lean ====
/- Rounding to an integer and clipping to a symmetric range that fits in a byte gives an integer, so turning it into a byte and
   back loses nothing. -/
module

public import Idealize.ShloMosaic.Lib.Pointwise

@[expose] public section

set_option maxRecDepth 16384

noncomputable section

namespace Cert.Pure

open Idealize.ShloMosaic Idealize.ShloMosaic.TcCoe Idealize.SL.Sem

/-- A rounded and clipped extended real is an integer of the clipping range. -/
theorem clip_int (n : ℕ) (y : EReal) : ∃ k : ℤ, -(n : ℤ) ≤ k ∧ k ≤ n ∧
    min ((n : ℝ) : EReal) (max ((-(n : ℝ) : ℝ) : EReal) (Ideal.liftRound Ideal.roundHalfEven y)) = ((k : ℝ) : EReal) := by
  have hn : ((-(n : ℝ) : ℝ) : EReal) ≤ ((n : ℝ) : EReal) := by
    rw [EReal.coe_le_coe_iff]; have : (0 : ℝ) ≤ n := Nat.cast_nonneg n; linarith
  induction y using EReal.rec with
  | bot =>
    refine ⟨-(n : ℤ), le_refl _, by omega, ?_⟩
    rw [Ideal.liftRound_bot, max_eq_left bot_le, min_eq_right hn]; push_cast; rfl
  | top =>
    refine ⟨n, by omega, le_refl _, ?_⟩
    rw [Ideal.liftRound_top, max_eq_right le_top, min_eq_left le_top]; push_cast; rfl
  | coe r =>
    refine ⟨min (n : ℤ) (max (-(n : ℤ)) (Ideal.roundHalfEven r)), by omega, by omega, ?_⟩
    rw [Ideal.liftRound_coe, ← EReal.coe_strictMono.monotone.map_max, ← EReal.coe_strictMono.monotone.map_min]; push_cast; rfl

/-- The byte made of an integer that fits in one reads back as that integer. -/
theorem byte_int (k : ℤ) (h0 : -127 ≤ k) (h1 : k ≤ 127) : (Ideal.fptosi 8 ((k : ℝ) : EReal)).toInt = k := by
  have hc : Ideal.toIntClamped (-((2 ^ (8 - 1) : ℕ) : ℤ)) (((2 ^ (8 - 1) : ℕ) : ℤ) - 1) ((k : ℝ) : EReal) = k := by
    rw [Ideal.toIntClamped_coe, Int.floor_intCast, Int.ceil_intCast, ite_self]
    norm_num; omega
  unfold Ideal.fptosi
  rw [hc, BitVec.toInt_ofInt]; unfold Int.bmod; norm_num; omega

/-- Turning a rounded and clipped value into a byte and back gives the value. -/
theorem byte_clip (n : ℕ) (hn : n ≤ 127) (y : EReal) :
    (((Ideal.fptosi 8 (min ((n : ℝ) : EReal) (max ((-(n : ℝ) : ℝ) : EReal) (Ideal.liftRound Ideal.roundHalfEven y)))).toInt : ℝ) : EReal)
      = min ((n : ℝ) : EReal) (max ((-(n : ℝ) : ℝ) : EReal) (Ideal.liftRound Ideal.roundHalfEven y)) := by
  obtain ⟨k, h0, h1, hk⟩ := clip_int n y
  rw [hk, byte_int k (by omega) (by omega)]

/-- The f32 word of the upper clipping bound of the activation codes is 127. -/
theorem ofBits_127 : Ideal.ofBits .f32 0x42FE0000#32 = ((((127 : ℕ) : ℝ)) : EReal) := by
  simp [Ideal.ofBits, Ideal.ieee, -EReal.coe_mul]; norm_num

/-- The f32 word of the lower clipping bound of the activation codes is -127. -/
theorem ofBits_neg127 : Ideal.ofBits .f32 0xC2FE0000#32 = ((-(((127 : ℕ) : ℝ)) : ℝ) : EReal) := by
  simp [Ideal.ofBits, Ideal.ieee, -EReal.coe_mul, -EReal.coe_neg]; norm_num

/-- An activation code: the clip at ±127, through a byte. -/
theorem byte_act (y : EReal) :
    (((Ideal.fptosi 8 (min (Ideal.ofBits .f32 0x42FE0000#32) (max (Ideal.ofBits .f32 0xC2FE0000#32) (Ideal.liftRound Ideal.roundHalfEven y)))).toInt : ℝ) : EReal)
      = min (Ideal.ofBits .f32 0x42FE0000#32) (max (Ideal.ofBits .f32 0xC2FE0000#32) (Ideal.liftRound Ideal.roundHalfEven y)) := by
  rw [ofBits_127, ofBits_neg127]; exact byte_clip 127 (le_refl _) y

/-- A weight code: the clip at ±1, through a byte. -/
theorem byte_wgt (y : EReal) :
    (((Ideal.fptosi 8 (min ((((1#32 : BitVec 32).toInt : ℝ)) : EReal) (max ((((4294967295#32 : BitVec 32).toInt : ℝ)) : EReal) (Ideal.liftRound Ideal.roundHalfEven y)))).toInt : ℝ) : EReal)
      = min ((((1#32 : BitVec 32).toInt : ℝ)) : EReal) (max ((((4294967295#32 : BitVec 32).toInt : ℝ)) : EReal) (Ideal.liftRound Ideal.roundHalfEven y)) := by
  have e1 : ((1#32 : BitVec 32).toInt : ℝ) = ((1 : ℕ) : ℝ) := by
    rw [show (1#32 : BitVec 32).toInt = 1 by decide]; norm_num
  have e2 : ((4294967295#32 : BitVec 32).toInt : ℝ) = -((1 : ℕ) : ℝ) := by
    rw [show (4294967295#32 : BitVec 32).toInt = -1 by decide]; norm_num
  rw [e1, e2]; exact byte_clip 1 (by norm_num) y

end Cert.Pure
-- ==== Proof.Pure.RowsA.lean ====
/- A row of an activation block: the kernel's normalised row, its scale and its codes are the reference's at the row's place. -/
module

public import proofs.«01_k».proof.Proof.Pure.Quant
public import proofs.«01_k».proof.Proof.Gen.KernelIdeal.Skeleton
public import proofs.«01_k».proof.Proof.Gen.ReferenceIdeal.Skeleton

@[expose] public section

set_option maxRecDepth 16384

noncomputable section

namespace Cert.Pure

open Idealize.ShloMosaic Idealize.ShloMosaic.TcCoe Idealize.SL.Sem

section Row
variable (X : FVec Ideal KernelIdeal.S512x1024 .bf16) (g : FVec Ideal KernelIdeal.S1x1024 .f32)
  (a0 : FVec Ideal ReferenceIdeal.S24x768x1024 .bf16) (a2 : FVec Ideal ReferenceIdeal.S1024 .f32)
  (r : Fin 512) (b : Fin 24) (s : Fin 768)

/-- The normalised row. -/
theorem norm_row (hX : ∀ k : Fin 1024, X (ix2 r k) = a0 (ix3 b s k)) (hg : ∀ k : Fin 1024, g (ix2 0 k) = a2 (ix1 k)) (k : Fin 1024) :
    KernelIdeal.Gen.k0_pay10 (F := Ideal) X g (ix2 r k) = ReferenceIdeal.Gen.k0_pay7 (F := Ideal) a0 a2 (ix3 b s k) := by
  pointwise [KernelIdeal.Gen.k0_pay10, ReferenceIdeal.Gen.k0_pay7, hX, hg]

end Row

end Cert.Pure
-- ==== Proof.Pure.RowsB.lean ====
/- A row of an activation block: the kernel's normalised row, its scale and its codes are the reference's at the row's place. -/
module

public import proofs.«01_k».proof.Proof.Pure.RowsA
public import proofs.«01_k».proof.Proof.Gen.KernelIdeal.Skeleton
public import proofs.«01_k».proof.Proof.Gen.ReferenceIdeal.Skeleton

@[expose] public section

set_option maxRecDepth 16384

noncomputable section

namespace Cert.Pure

open Idealize.ShloMosaic Idealize.ShloMosaic.TcCoe Idealize.SL.Sem

section Scale
variable {F : FTy → Type} [FloatOps F]

/-- The scale of a row whose largest absolute value is `a`: `a / 127`, or one for a row of zeros. -/
def scaleOf (a : F .f32) : F .f32 :=
  Scalar.select (FloatOps.cmpf .oeq a (Scalar.ofBits .f32 0x00000000#32)) (Scalar.ofBits .f32 0x3F800000#32)
    (FloatOps.divf a (Scalar.ofBits .f32 0x42FE0000#32))

/-- The rows' largest absolute values in the kernel. -/
def absMaxK (v : FVec F KernelIdeal.S512x1024 .f32) : FVec F KernelIdeal.S512x1 .f32 :=
  shapeCast KernelIdeal.S512x1 (multiReduction (F := F) .maximumf [1] KernelIdeal.S512 (absf v) 0xFF800000#32
        KernelIdeal.Gen.reduces_S512x1024_S512 (.inl rfl) rfl) KernelIdeal.Gen.shapeCasts_S512_S512x1

/-- The rows' largest absolute values in the reference. -/
def absMaxR (v : FVec F ReferenceIdeal.S24x768x1024 .f32) : FVec F ReferenceIdeal.S24x768 .f32 :=
  multiReduction (F := F) .maximumf [2] ReferenceIdeal.S24x768 (absf v) 0xFF800000#32
        ReferenceIdeal.Gen.reduces_S24x768x1024_S24x768 (.inl rfl) rfl

/-- The kernel's column of scales, from the rows' largest absolute values. -/
theorem pay11_scaleOf (X : FVec F KernelIdeal.S512x1024 .bf16) (g : FVec F KernelIdeal.S1x1024 .f32) (i : KernelIdeal.S512x1.Idx) :
    KernelIdeal.Gen.k0_pay11 (F := F) X g i = scaleOf (absMaxK (KernelIdeal.Gen.k0_pay10 (F := F) X g) i) := rfl

/-- The reference's scales, from the rows' largest absolute values. -/
theorem pay8_scaleOf (a0 : FVec F ReferenceIdeal.S24x768x1024 .bf16) (a2 : FVec F ReferenceIdeal.S1024 .f32) (i : ReferenceIdeal.S24x768.Idx) :
    ReferenceIdeal.Gen.k0_pay8 (F := F) a0 a2 i = scaleOf (absMaxR (ReferenceIdeal.Gen.k0_pay7 (F := F) a0 a2) i) := rfl

end Scale

/-- A kernel row's largest absolute value, as a maximum over the row. -/
theorem absMaxK_apply (v : FVec Ideal KernelIdeal.S512x1024 .f32) (r : Fin 512) : absMaxK (F := Ideal) v (ix2 r 0)
    = Finset.univ.fold max (Ideal.ofBits .f32 0xFF800000#32) fun k : Fin 1024 => FloatOps.absf (F := Ideal) (φ := .f32) (v (ix2 r k)) := by
  pointwise [absMaxK]

/-- A reference row's largest absolute value, as a maximum over the row. -/
theorem absMaxR_apply (v : FVec Ideal ReferenceIdeal.S24x768x1024 .f32) (b : Fin 24) (s : Fin 768) : absMaxR (F := Ideal) v (ix2 b s)
    = Finset.univ.fold max (Ideal.ofBits .f32 0xFF800000#32) fun k : Fin 1024 => FloatOps.absf (F := Ideal) (φ := .f32) (v (ix3 b s k)) := by
  pointwise [absMaxR]

/-- Equal rows have equal largest absolute values. -/
theorem absMax_row (v : FVec Ideal KernelIdeal.S512x1024 .f32) (v' : FVec Ideal ReferenceIdeal.S24x768x1024 .f32) (r : Fin 512) (b : Fin 24) (s : Fin 768)
    (h : ∀ k : Fin 1024, v (ix2 r k) = v' (ix3 b s k)) : absMaxK (F := Ideal) v (ix2 r 0) = absMaxR (F := Ideal) v' (ix2 b s) := by
  rw [absMaxK_apply, absMaxR_apply]; simp only [h]

section Row
variable (X : FVec Ideal KernelIdeal.S512x1024 .bf16) (g : FVec Ideal KernelIdeal.S1x1024 .f32)
  (a0 : FVec Ideal ReferenceIdeal.S24x768x1024 .bf16) (a2 : FVec Ideal ReferenceIdeal.S1024 .f32)
  (r : Fin 512) (b : Fin 24) (s : Fin 768)

/-- The scale of a row. -/
theorem scale_row (hX : ∀ k : Fin 1024, X (ix2 r k) = a0 (ix3 b s k)) (hg : ∀ k : Fin 1024, g (ix2 0 k) = a2 (ix1 k)) :
    KernelIdeal.Gen.k0_pay11 (F := Ideal) X g (ix2 r 0) = ReferenceIdeal.Gen.k0_pay8 (F := Ideal) a0 a2 (ix2 b s) := by
  have h := norm_row X g a0 a2 r b s hX hg
  rw [pay11_scaleOf, pay8_scaleOf, absMax_row _ _ r b s h]

end Row

end Cert.Pure
-- ==== Proof.Pure.RowsC.lean ====
/- A row of an activation block: the kernel's normalised row, its scale and its codes are the reference's at the row's place. -/
module

public import proofs.«01_k».proof.Proof.Pure.RowsB
public import proofs.«01_k».proof.Proof.Gen.KernelIdeal.Skeleton
public import proofs.«01_k».proof.Proof.Gen.ReferenceIdeal.Skeleton

@[expose] public section

set_option maxRecDepth 16384

noncomputable section

namespace Cert.Pure

open Idealize.ShloMosaic Idealize.ShloMosaic.TcCoe Idealize.SL.Sem

section Code
variable {F : FTy → Type} [FloatOps F]

/-- The value of an activation code, before it becomes a byte: the quotient, rounded and clipped. -/
def codeOf (a b : F .f32) : F .f32 :=
  FloatOps.minimumf (Scalar.ofBits .f32 0x42FE0000#32) (FloatOps.maximumf (Scalar.ofBits .f32 0xC2FE0000#32) (FloatOps.roundeven (FloatOps.divf a b)))

/-- The kernel's column of scales, spread over the rows. -/
def spreadK (v : FVec F KernelIdeal.S512x1 .f32) : FVec F KernelIdeal.S512x1024 .f32 :=
  broadcastTo KernelIdeal.S512x1024 v KernelIdeal.Gen.broadcasts_S512x1_S512x1024

/-- The kernel's code values. -/
theorem pay12_codeOf (X : FVec F KernelIdeal.S512x1024 .bf16) (g : FVec F KernelIdeal.S1x1024 .f32) (i : KernelIdeal.S512x1024.Idx) :
    KernelIdeal.Gen.k0_pay12 (F := F) X g i = codeOf (KernelIdeal.Gen.k0_pay10 (F := F) X g i) (spreadK (KernelIdeal.Gen.k0_pay11 X g) i) := rfl

/-- The kernel's codes. -/
theorem pay13_codeOf (X : FVec F KernelIdeal.S512x1024 .bf16) (g : FVec F KernelIdeal.S1x1024 .f32) (i : KernelIdeal.S512x1024.Idx) :
    KernelIdeal.Gen.k0_pay13 (F := F) X g i = FloatOps.fptosi 8 (KernelIdeal.Gen.k0_pay12 (F := F) X g i) := rfl

/-- The code values in the matrix unit's format. -/
theorem pay14_trunc (v : FVec F KernelIdeal.S512x1024 .f32) (i : KernelIdeal.S512x1024.Idx) :
    KernelIdeal.Gen.k0_pay14 (F := F) v i = FloatOps.truncf .bf16 KernelIdeal.Gen.bitsLt_bf16_f32 (v i) := rfl

/-- The reference's codes. -/
theorem pay1_codeOf (v v' : FVec F ReferenceIdeal.S24x768x1024 .f32) (i : ReferenceIdeal.S24x768x1024.Idx) :
    ReferenceIdeal.Gen.k0_pay1 (F := F) v v' i = FloatOps.fptosi 8 (codeOf (v i) (v' i)) := rfl

end Code

/-- The spread column at a place. -/
theorem spreadK_apply (v : FVec Ideal KernelIdeal.S512x1 .f32) (r : Fin 512) (k : Fin 1024) : spreadK (F := Ideal) v (ix2 r k) = v (ix2 r 0) := by
  pointwise [spreadK]

/-- A code value, as an extended real, survives the byte. -/
theorem byte_codeOf (a b : EReal) :
    (((Ideal.fptosi 8 (codeOf (F := Ideal) a b)).toInt : ℝ) : EReal) = codeOf (F := Ideal) a b := byte_act (Ideal.div a b)

section Row
variable (X : FVec Ideal KernelIdeal.S512x1024 .bf16) (g : FVec Ideal KernelIdeal.S1x1024 .f32)
  (a0 : FVec Ideal ReferenceIdeal.S24x768x1024 .bf16) (a2 : FVec Ideal ReferenceIdeal.S1024 .f32)
  (r : Fin 512) (b : Fin 24) (s : Fin 768)

/-- The reference's scales spread over the rows. -/
theorem spread_scale (k : Fin 1024) :
    ReferenceIdeal.Gen.k0_pay9 (F := Ideal) a0 a2 (ix3 b s k) = ReferenceIdeal.Gen.k0_pay8 (F := Ideal) a0 a2 (ix2 b s) := by
  pointwise [ReferenceIdeal.Gen.k0_pay9]

/-- The code values of a row. -/
theorem codeVal_row (hX : ∀ k : Fin 1024, X (ix2 r k) = a0 (ix3 b s k)) (hg : ∀ k : Fin 1024, g (ix2 0 k) = a2 (ix1 k)) (k : Fin 1024) :
    KernelIdeal.Gen.k0_pay12 (F := Ideal) X g (ix2 r k)
      = codeOf (F := Ideal) (ReferenceIdeal.Gen.k0_pay7 a0 a2 (ix3 b s k)) (ReferenceIdeal.Gen.k0_pay9 a0 a2 (ix3 b s k)) := by
  rw [pay12_codeOf, spreadK_apply, norm_row X g a0 a2 r b s hX hg k, scale_row X g a0 a2 r b s hX hg, spread_scale]

/-- The codes of a row. -/
theorem code_row (hX : ∀ k : Fin 1024, X (ix2 r k) = a0 (ix3 b s k)) (hg : ∀ k : Fin 1024, g (ix2 0 k) = a2 (ix1 k)) (k : Fin 1024) :
    KernelIdeal.Gen.k0_pay13 (F := Ideal) X g (ix2 r k)
      = ReferenceIdeal.Gen.k0_pay1 (F := Ideal) (ReferenceIdeal.Gen.k0_pay7 a0 a2) (ReferenceIdeal.Gen.k0_pay9 a0 a2) (ix3 b s k) := by
  rw [pay13_codeOf, pay1_codeOf, codeVal_row X g a0 a2 r b s hX hg k]

/-- The unrounded codes the kernel multiplies are the reference's codes, converted back. -/
theorem code_row_val (hX : ∀ k : Fin 1024, X (ix2 r k) = a0 (ix3 b s k)) (hg : ∀ k : Fin 1024, g (ix2 0 k) = a2 (ix1 k)) (k : Fin 1024) :
    KernelIdeal.Gen.k0_pay14 (F := Ideal) (KernelIdeal.Gen.k0_pay12 X g) (ix2 r k)
      = FloatOps.sitofp (F := Ideal) .bf16 (ReferenceIdeal.Gen.k0_pay1 (F := Ideal) (ReferenceIdeal.Gen.k0_pay7 a0 a2) (ReferenceIdeal.Gen.k0_pay9 a0 a2) (ix3 b s k)) := by
  rw [pay14_trunc, pay1_codeOf, codeVal_row X g a0 a2 r b s hX hg k]
  exact (byte_codeOf _ _).symm

end Row

end Cert.Pure
-- ==== Proof.Pure.RowsD.lean ====
/- A row of an activation block: the kernel's normalised row, its scale and its codes are the reference's at the row's place. -/
module

public import proofs.«01_k».proof.Proof.Pure.RowsC
public import proofs.«01_k».proof.Proof.Gen.KernelIdeal.Skeleton
public import proofs.«01_k».proof.Proof.Gen.ReferenceIdeal.Skeleton

@[expose] public section

set_option maxRecDepth 16384

noncomputable section

namespace Cert.Pure

open Idealize.ShloMosaic Idealize.ShloMosaic.TcCoe Idealize.SL.Sem

section Prod
variable {F : FTy → Type} [FloatOps F]

/-- An entry of `y`, from the product of codes, the row's scale and the mean. -/
def yOf (p sc g : F .f32) : F .bf16 := FloatOps.truncf .bf16 KernelIdeal.Gen.bitsLt_bf16_f32 (FloatOps.mulf (FloatOps.mulf p sc) g)

/-- The kernel's product of codes. -/
def prodK (cb : FVec F KernelIdeal.S512x1024 .bf16) (wb : FVec F KernelIdeal.S1024x2816 .bf16) : FVec F KernelIdeal.S512x2816 .f32 :=
  matmul KernelIdeal.dot_S512x1024_S1024x2816_S512x2816_1_0_0_1_n_n none cb wb (constant KernelIdeal.S512x2816 .f32 0x00000000#32)

/-- The kernel's column of scales, spread over the rows of `y`. -/
def wideK (v : FVec F KernelIdeal.S512x1 .f32) : FVec F KernelIdeal.S512x2816 .f32 :=
  broadcastTo KernelIdeal.S512x2816 v KernelIdeal.Gen.broadcasts_S512x1_S512x2816

/-- The kernel's block of `y`. -/
theorem pay3_yOf (g : F .f32) (sc : FVec F KernelIdeal.S512x1 .f32) (cb : FVec F KernelIdeal.S512x1024 .bf16) (wb : FVec F KernelIdeal.S1024x2816 .bf16)
    (i : KernelIdeal.S512x2816.Idx) :
    KernelIdeal.Gen.k0_pay3 (F := F) g sc cb wb i = yOf (prodK cb wb i) (wideK sc i) g := rfl

/-- The reference's product of codes. -/
def prodR (cb : IVec ReferenceIdeal.S24x768x1024 8) (wq : IVec ReferenceIdeal.S1024x2816 8) : FVec F ReferenceIdeal.S24x768x2816 .f32 :=
  matmul (φ₁ := .bf16) (φ₂ := .bf16) ReferenceIdeal.dot_S24x768x1024_S1024x2816_S24x768x2816_2_0_01_1_n_n none (sitofp .bf16 cb) (sitofp .bf16 wq)
    (constant ReferenceIdeal.S24x768x2816 .f32 0x00000000#32)

/-- The reference's scales, spread over the rows of `y`. -/
def wideR (v : FVec F ReferenceIdeal.S24x768 .f32) : FVec F ReferenceIdeal.S24x768x2816 .f32 :=
  broadcastTo ReferenceIdeal.S24x768x2816 (shapeCast ReferenceIdeal.S24x768x1 v ReferenceIdeal.Gen.shapeCasts_S24x768_S24x768x1)
    ReferenceIdeal.Gen.broadcasts_S24x768x1_S24x768x2816

/-- The reference's `y`, row index split. -/
def yR (g : F .f32) (sc : FVec F ReferenceIdeal.S24x768 .f32) (cb : IVec ReferenceIdeal.S24x768x1024 8) (wq : IVec ReferenceIdeal.S1024x2816 8) :
    FVec F ReferenceIdeal.S24x768x2816 .bf16 := fun i => yOf (prodR cb wq i) (wideR sc i) g

/-- The reference's `y`, laid out as rows. -/
theorem pay2_yR (g : F .f32) (sc : FVec F ReferenceIdeal.S24x768 .f32) (wq : IVec ReferenceIdeal.S1024x2816 8)
    (v v' : FVec F ReferenceIdeal.S24x768x1024 .f32) :
    ReferenceIdeal.Gen.k0_pay2 (F := F) g wq v sc v'
      = shapeCast ReferenceIdeal.S18432x2816 (yR g sc (ReferenceIdeal.Gen.k0_pay1 v v') wq) ReferenceIdeal.Gen.shapeCasts_S24x768x2816_S18432x2816 := rfl

end Prod

/-- An entry of the kernel's product. -/
theorem prodK_apply (cb : FVec Ideal KernelIdeal.S512x1024 .bf16) (wb : FVec Ideal KernelIdeal.S1024x2816 .bf16) (r : Fin 512) (l : Fin 2816) :
    prodK (F := Ideal) cb wb (ix2 r l) = ∑ k : Fin 1024, cb (ix2 r k) * wb (ix2 k l) := by
  pointwise [prodK]

/-- An entry of the spread scales. -/
theorem wideK_apply (v : FVec Ideal KernelIdeal.S512x1 .f32) (r : Fin 512) (l : Fin 2816) : wideK (F := Ideal) v (ix2 r l) = v (ix2 r 0) := by
  pointwise [wideK]

/-- An entry of the reference's product. -/
theorem prodR_apply (cb : IVec ReferenceIdeal.S24x768x1024 8) (wq : IVec ReferenceIdeal.S1024x2816 8) (b : Fin 24) (s : Fin 768) (l : Fin 2816) :
    prodR (F := Ideal) cb wq (ix3 b s l)
      = ∑ k : Fin 1024, FloatOps.sitofp (F := Ideal) .bf16 (cb (ix3 b s k)) * FloatOps.sitofp (F := Ideal) .bf16 (wq (ix2 k l)) := by
  pointwise [prodR]

/-- An entry of the reference's spread scales. -/
theorem wideR_apply (v : FVec Ideal ReferenceIdeal.S24x768 .f32) (b : Fin 24) (s : Fin 768) (l : Fin 2816) : wideR (F := Ideal) v (ix3 b s l) = v (ix2 b s) := by
  pointwise [wideR]

/-- Rows of a 24 by 768 layout, counted through. -/
theorem flat_y (v : FVec Ideal ReferenceIdeal.S24x768x2816 .bf16) (b : Fin 24) (s : Fin 768) (n : Fin 18432) (hn : n.val = 768 * b.val + s.val) (l : Fin 2816) :
    shapeCast ReferenceIdeal.S18432x2816 v ReferenceIdeal.Gen.shapeCasts_S24x768x2816_S18432x2816 (ix2 n l) = v (ix3 b s l) := by
  have eb : (⟨n.val / 768, by omega⟩ : Fin 24) = b := Fin.ext (by show n.val / 768 = b.val; omega)
  have es : (⟨n.val % 768, by omega⟩ : Fin 768) = s := Fin.ext (by show n.val % 768 = s.val; omega)
  pointwise [eb, es]

/-- A row of the product, scaled. -/
theorem y_row (X : FVec Ideal KernelIdeal.S512x1024 .bf16) (g : FVec Ideal KernelIdeal.S1x1024 .f32) (gm gm' : Ideal .f32)
    (wb : FVec Ideal KernelIdeal.S1024x2816 .bf16) (wq : IVec ReferenceIdeal.S1024x2816 8)
    (a0 : FVec Ideal ReferenceIdeal.S24x768x1024 .bf16) (a2 : FVec Ideal ReferenceIdeal.S1024 .f32)
    (r : Fin 512) (b : Fin 24) (s : Fin 768) (n : Fin 18432) (hn : n.val = 768 * b.val + s.val)
    (hX : ∀ k : Fin 1024, X (ix2 r k) = a0 (ix3 b s k)) (hg : ∀ k : Fin 1024, g (ix2 0 k) = a2 (ix1 k)) (hgm : gm = gm')
    (hw : ∀ (k : Fin 1024) (l : Fin 2816), wb (ix2 k l) = FloatOps.sitofp (F := Ideal) .bf16 (wq (ix2 k l))) (l : Fin 2816) :
    KernelIdeal.Gen.k0_pay3 (F := Ideal) gm (KernelIdeal.Gen.k0_pay11 (F := Ideal) X g) (KernelIdeal.Gen.k0_pay14 (F := Ideal) (KernelIdeal.Gen.k0_pay12 (F := Ideal) X g)) wb (ix2 r l)
      = ReferenceIdeal.Gen.k0_pay2 (F := Ideal) gm' wq (ReferenceIdeal.Gen.k0_pay7 (F := Ideal) a0 a2) (ReferenceIdeal.Gen.k0_pay8 (F := Ideal) a0 a2)
          (ReferenceIdeal.Gen.k0_pay9 (F := Ideal) a0 a2) (ix2 n l) := by
  have h := code_row_val X g a0 a2 r b s hX hg
  have h1 := scale_row X g a0 a2 r b s hX hg
  have hp : prodK (F := Ideal) (KernelIdeal.Gen.k0_pay14 (F := Ideal) (KernelIdeal.Gen.k0_pay12 (F := Ideal) X g)) wb (ix2 r l)
      = prodR (F := Ideal) (ReferenceIdeal.Gen.k0_pay1 (ReferenceIdeal.Gen.k0_pay7 (F := Ideal) a0 a2) (ReferenceIdeal.Gen.k0_pay9 (F := Ideal) a0 a2)) wq (ix3 b s l) := by
    rw [prodK_apply, prodR_apply]
    exact Finset.sum_congr rfl fun k _ => by rw [h k, hw k l]
  rw [pay3_yOf, pay2_yR, flat_y _ b s n hn, hp, wideK_apply, h1, hgm]
  unfold yR
  rw [wideR_apply]

/-- The reference's codes, laid out as rows. -/
theorem codes_flat (v v' : FVec Ideal ReferenceIdeal.S24x768x1024 .f32) (b : Fin 24) (s : Fin 768) (n : Fin 18432)
    (hn : n.val = 768 * b.val + s.val) (k : Fin 1024) :
    ReferenceIdeal.Gen.k0_pay4 (F := Ideal) v v' (ix2 n k) = ReferenceIdeal.Gen.k0_pay1 (F := Ideal) v v' (ix3 b s k) := by
  have eb : (⟨n.val / 768, by omega⟩ : Fin 24) = b := Fin.ext (by show n.val / 768 = b.val; omega)
  have es : (⟨n.val % 768, by omega⟩ : Fin 768) = s := Fin.ext (by show n.val % 768 = s.val; omega)
  pointwise [ReferenceIdeal.Gen.k0_pay4, eb, es]

end Cert.Pure
-- ==== Proof.Pure.Weight.lean ====
/- The weight: the mean absolute value summed in chunks of eight rows is the reference's, and so are the ternary codes. -/
module

public import proofs.«01_k».proof.Proof.Pure.Quant
public import proofs.«01_k».proof.Proof.KI.Spec
public import proofs.«01_k».proof.Proof.Gen.ReferenceIdeal.Skeleton

@[expose] public section

set_option maxRecDepth 16384

noncomputable section

namespace Cert.Pure

open Idealize.ShloMosaic Idealize.ShloMosaic.TcCoe Idealize.SL.Sem

variable (x : FVec Ideal KernelIdeal.S1024x2816 .f32)

/-- The accumulator after `n` chunks is the sum over the chunks. -/
theorem accK_sum (n : ℕ) (a : Fin 8) (l : Fin 2816) : KernelIdeal.Hand.accK (F := Ideal) x n (ix2 a l)
    = ∑ j ∈ Finset.range n, FloatOps.absf (F := Ideal) (φ := .f32) (x (ix2 ⟨(8 * j + a.val) % 1024, Nat.mod_lt _ (by decide)⟩ l)) := by
  induction n with
  | zero =>
    rw [Finset.range_zero, Finset.sum_empty]
    show KernelIdeal.Gen.k0_pay4 (F := Ideal) (ix2 a l) = 0
    pointwise [KernelIdeal.Gen.k0_pay4]
  | succ n ih =>
    rw [Finset.sum_range_succ, ← ih]; rfl

/-- The mean absolute value. -/
theorem gam_eq : KernelIdeal.Hand.gam (F := Ideal) x = ReferenceIdeal.Gen.k0_pay5 (F := Ideal) x := by
  have h := accK_sum x 128
  unfold KernelIdeal.Hand.gam
  pointwise [KernelIdeal.Gen.k0_pay6, ReferenceIdeal.Gen.k0_pay5, h]
  refine congrArg (Ideal.div · _) ?_
  refine Eq.trans ?_ (Fin.sum_univ_tiles 128 8 rfl (fun i : Fin 1024 => ∑ l : Fin 2816, FloatOps.absf (F := Ideal) (φ := .f32) (x (ix2 i l)))).symm
  refine Eq.trans (Finset.sum_congr rfl fun a _ => (Finset.sum_congr rfl fun l _ => Finset.sum_range _).trans Finset.sum_comm) ?_
  refine Finset.sum_comm.trans (Finset.sum_congr rfl fun j _ => Finset.sum_congr rfl fun a _ => Finset.sum_congr rfl fun l _ => ?_)
  refine congrArg (fun i : Fin 1024 => FloatOps.absf (F := Ideal) (φ := .f32) (x (ix2 i l))) (Fin.ext ?_)
  show (8 * j.val + a.val) % 1024 = j.val * 8 + a.val
  omega

/-- A row of the weight in its chunk of 128 rows. -/
theorem rows128_apply (k : Fin 1024) (l : Fin 2816) :
    KernelIdeal.Hand.rows128 (F := Ideal) x (k.val / 128) (ix2 ⟨k.val % 128, Nat.mod_lt _ (by decide)⟩ l) = x (ix2 k l) := by
  unfold KernelIdeal.Hand.rows128
  refine congrArg x ((ix2_inj ..).2 ⟨Fin.ext ?_, rfl⟩)
  show (128 * (k.val / 128) + k.val % 128) % 1024 = k.val
  omega

/-- The ternary codes. -/
theorem wq_eq (k : Fin 1024) (l : Fin 2816) :
    KernelIdeal.Hand.wqV (F := Ideal) x (ix2 k l) = ReferenceIdeal.Gen.k0_pay6 (F := Ideal) x (ix2 k l) := by
  have h := rows128_apply x k l
  have hg : KernelIdeal.Gen.k0_pay6 (F := Ideal) (KernelIdeal.Hand.accK x 128) = ReferenceIdeal.Gen.k0_pay5 (F := Ideal) x := gam_eq x
  show KernelIdeal.Gen.k0_pay8 (F := Ideal) (KernelIdeal.Hand.accK x 128) (KernelIdeal.Hand.rows128 x (k.val / 128)) (ix2 ⟨k.val % 128, Nat.mod_lt _ (by decide)⟩ l) = _
  pointwise [KernelIdeal.Gen.k0_pay8, KernelIdeal.Gen.k0_pay7, ReferenceIdeal.Gen.k0_pay6, h, hg]

/-- The unrounded codes the kernel multiplies are the reference's codes, converted back. -/
theorem wb_eq (k : Fin 1024) (l : Fin 2816) :
    KernelIdeal.Hand.wbV (F := Ideal) x (ix2 k l) = FloatOps.sitofp (F := Ideal) .bf16 (ReferenceIdeal.Gen.k0_pay6 (F := Ideal) x (ix2 k l)) := by
  have h := rows128_apply x k l
  have hg : KernelIdeal.Gen.k0_pay6 (F := Ideal) (KernelIdeal.Hand.accK x 128) = ReferenceIdeal.Gen.k0_pay5 (F := Ideal) x := gam_eq x
  show KernelIdeal.Gen.k0_pay9 (F := Ideal) (KernelIdeal.Hand.accK x 128) (KernelIdeal.Hand.rows128 x (k.val / 128)) (ix2 ⟨k.val % 128, Nat.mod_lt _ (by decide)⟩ l) = _
  pointwise [KernelIdeal.Gen.k0_pay9, KernelIdeal.Gen.k0_pay7, ReferenceIdeal.Gen.k0_pay6, h, hg]
  exact (byte_wgt _).symm

end Cert.Pure
-- ==== Proof.Pure.Scales.lean ====
/- The kernel turns a column of scales into a row by a masked sum over an identity matrix; the row holds the column's entries. -/
module

public import proofs.«01_k».proof.Proof.KI.Spec
public import Idealize.ShloMosaic.Lib.Pointwise

@[expose] public section

set_option maxRecDepth 16384

noncomputable section

namespace Cert.Pure

open Idealize.ShloMosaic Idealize.ShloMosaic.TcCoe Idealize.SL.Sem

/-- A column sum masked to the diagonal is the diagonal entry. -/
theorem diag_sum (f : Fin 128 → EReal) (l : Fin 128) :
    (∑ a : Fin 128, Scalar.select (IntOp.cmpi CmpIPredicate.eq (BitVec.ofNat 32 a.val) (BitVec.ofNat 32 l.val)) (f a) 0) = f l := by
  rw [Finset.sum_eq_single l]
  · simp [Scalar.select, IntOp.cmpi]
  · intro a _ ha
    have hne : BitVec.ofNat 32 a.val ≠ BitVec.ofNat 32 l.val := fun h => ha (Fin.ext (by
      have := congrArg BitVec.toNat h
      simp only [BitVec.toNat_ofNat] at this
      omega))
    have hb : (BitVec.ofNat 32 a.val == BitVec.ofNat 32 l.val) = false := beq_eq_false_iff_ne.mpr hne
    simp [Scalar.select, IntOp.cmpi, hb]
  · intro h; exact absurd (Finset.mem_univ l) h

variable (sc : FVec Ideal KernelIdeal.S512x1 .f32)

/-- The first quarter of the column. -/
theorem lane0 (l : Fin 128) : KernelIdeal.Gen.k0_pay15 (F := Ideal) sc (ix2 0 l) = sc (ix2 ⟨l.val, by omega⟩ 0) := by
  pointwise [KernelIdeal.Gen.k0_pay15]
  exact diag_sum (fun a => sc (ix2 ⟨a.val, by omega⟩ 0)) l

/-- The second quarter of the column. -/
theorem lane1 (l : Fin 128) : KernelIdeal.Gen.k0_pay16 (F := Ideal) sc (ix2 0 l) = sc (ix2 ⟨128 + l.val, by omega⟩ 0) := by
  pointwise [KernelIdeal.Gen.k0_pay16]
  exact diag_sum (fun a => sc (ix2 ⟨128 + a.val, by omega⟩ 0)) l

/-- The third quarter of the column. -/
theorem lane2 (l : Fin 128) : KernelIdeal.Gen.k0_pay1 (F := Ideal) (KernelIdeal.Gen.k0_pay17 sc) (ix2 0 l) = sc (ix2 ⟨256 + l.val, by omega⟩ 0) := by
  pointwise [KernelIdeal.Gen.k0_pay1, KernelIdeal.Gen.k0_pay17]
  exact diag_sum (fun a => sc (ix2 ⟨256 + a.val, by omega⟩ 0)) l

/-- The fourth quarter of the column. -/
theorem lane3 (l : Fin 128) : KernelIdeal.Gen.k0_pay2 (F := Ideal) sc (ix2 0 l) = sc (ix2 ⟨384 + l.val, by omega⟩ 0) := by
  pointwise [KernelIdeal.Gen.k0_pay2]
  exact diag_sum (fun a => sc (ix2 ⟨384 + a.val, by omega⟩ 0)) l

end Cert.Pure
-- ==== Proof.KI.Scal.lean ====
/- The scratch of scales, read off. -/
module

public import proofs.«01_k».proof.Proof.KI.Data
public import proofs.«01_k».proof.Proof.Pure.Scales

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The scratch of scales: lane `l` of row `4 t + q` is the scale of row `128 q + l` of block `t`. -/
theorem scal_apply (c : Dev nD) (R : Fin 144) (l : Fin 128) :
    scal m c (ix2 R l) = k0_pay11 (F := Ideal) (Xt m c (R.val / 4)) (Gt m c) (ix2 ⟨128 * (R.val % 4) + l.val, by omega⟩ 0) := by
  have hR : R.val = 4 * (R.val / 4) + R.val % 4 := by omega
  have hq : R.val % 4 = 0 ∨ R.val % 4 = 1 ∨ R.val % 4 = 2 ∨ R.val % 4 = 3 := by omega
  rw [Sc_eq]
  unfold scal rowsV
  show (if R.val = 4 * (R.val / 4) + 3 then k0_pay2 (F := Ideal) (Sc m c (R.val / 4)) (ix2 0 l)
    else if R.val = 4 * (R.val / 4) + 2 then k0_pay1 (F := Ideal) (k0_pay17 (Sc m c (R.val / 4))) (ix2 0 l)
    else if R.val = 4 * (R.val / 4) + 1 then k0_pay16 (F := Ideal) (Sc m c (R.val / 4)) (ix2 0 l)
    else if R.val = 4 * (R.val / 4) then k0_pay15 (F := Ideal) (Sc m c (R.val / 4)) (ix2 0 l)
    else Sc m c 0 (ix2 0 0)) = _
  rcases hq with h | h | h | h
  · rw [if_neg (by omega), if_neg (by omega), if_neg (by omega), if_pos (by omega), Pure.lane0]
    exact congrArg (fun i : Fin 512 => Sc m c (R.val / 4) (ix2 i 0)) (Fin.ext (by show l.val = 128 * (R.val % 4) + l.val; omega))
  · rw [if_neg (by omega), if_neg (by omega), if_pos (by omega), Pure.lane1]
    exact congrArg (fun i : Fin 512 => Sc m c (R.val / 4) (ix2 i 0)) (Fin.ext (by show 128 + l.val = 128 * (R.val % 4) + l.val; omega))
  · rw [if_neg (by omega), if_pos (by omega), Pure.lane2]
    exact congrArg (fun i : Fin 512 => Sc m c (R.val / 4) (ix2 i 0)) (Fin.ext (by show 256 + l.val = 128 * (R.val % 4) + l.val; omega))
  · rw [if_pos (by omega), Pure.lane3]
    exact congrArg (fun i : Fin 512 => Sc m c (R.val / 4) (ix2 i 0)) (Fin.ext (by show 384 + l.val = 128 * (R.val % 4) + l.val; omega))

end Cert.KernelIdeal.Hand
-- ==== Proof.KI.Arrays.lean ====
/- The kernel's result arrays after the run are the reference's functions of the argument arrays. -/
module

public import proofs.«01_k».proof.Proof.KI.Blocks
public import proofs.«01_k».proof.Proof.Pure.Ref
public import proofs.«01_k».proof.Proof.Pure.RowsD
public import proofs.«01_k».proof.Proof.Pure.Weight
public import proofs.«01_k».proof.Proof.KI.Scal

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The weight argument. -/
theorem Wt_eq (c : Dev nD) : Wt m c = m ((c : Thread nD τ).loc main_arg1) := funext fun y => by
  idx_vars y
  exact Wt_apply m c y0 y1

/-- The mean absolute weight. -/
theorem final5 (c : Dev nD) : (dats m 0 c).arrAt 5 (cfgs 0).N
    = Cert.ReferenceIdeal.Value.G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  show gam (Wt m c) = ReferenceIdeal.Gen.k0_pay3 (F := Ideal) _ _
  rw [Wt_eq]
  exact Pure.gam_eq _

/-- The weight codes. -/
theorem final4 (c : Dev nD) : (dats m 0 c).arrAt 4 (cfgs 0).N
    = Cert.ReferenceIdeal.Value.G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  have e : ((cfg0.win 4).blk t).view.emb (ix2 y0 y1 : S1024x2816.Idx) = (ix2 y0 y1 : S1024x2816.Idx) := by blk_ext [idx t]
  refine Eq.trans ?_ (congrArg (Cert.ReferenceIdeal.Value.G4 (F := Ideal) _ _ _) e.symm)
  rw [Wt_eq]
  refine (Pure.wq_eq _ y0 y1).trans ?_
  exact congrFun (Cert.ReferenceIdeal.Hand.codes_w _ _ _).symm _

/-- Global row of a block's row, split in two. -/
theorem split_row (t : Fin cfg0.N) (r : Fin 512) : ∃ (b : Fin 24) (s : Fin 768), 512 * t.val + r.val = 768 * b.val + s.val := by
  have ht : t.val < 36 := lt_of_lt_of_eq t.isLt (show cfg0.N = 36 from N_0)
  exact ⟨⟨(512 * t.val + r.val) / 768, by omega⟩, ⟨(512 * t.val + r.val) % 768, by omega⟩, by
    show _ = 768 * ((512 * t.val + r.val) / 768) + (512 * t.val + r.val) % 768; omega⟩

/-- The activation codes. -/
theorem final6 (c : Dev nD) : (dats m 0 c).arrAt 6 (cfgs 0).N
    = Cert.ReferenceIdeal.Value.G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  obtain ⟨b, s, hbs⟩ := split_row t y0
  have e : ((cfg0.win 6).blk t).view.emb (ix2 y0 y1 : S512x1024.Idx) = (ix2 ⟨512 * t.val + y0.val, by omega⟩ y1 : S18432x1024.Idx) := by blk_ext [idx t]
  refine Eq.trans ?_ (congrArg (Cert.ReferenceIdeal.Value.G6 (F := Ideal) _ _ _) e.symm)
  refine (Pure.code_row _ _ _ _ y0 b s (Xt_apply m c t y0 b s hbs) (Gt_apply m c) y1).trans ?_
  have hn : 512 * t.val + y0.val < 18432 := by omega
  refine (Pure.codes_flat _ _ b s ⟨512 * t.val + y0.val, hn⟩ hbs y1).symm.trans ?_
  unfold Cert.ReferenceIdeal.Value.G6
  rw [Cert.ReferenceIdeal.Hand.norm_x, Cert.ReferenceIdeal.Hand.spread_x]

/-- The product. -/
theorem final3 (c : Dev nD) : (dats m 0 c).arrAt 3 (cfgs 0).N
    = Cert.ReferenceIdeal.Value.G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  obtain ⟨b, s, hbs⟩ := split_row t y0
  have e : ((cfg0.win 3).blk t).view.emb (ix2 y0 y1 : S512x2816.Idx) = (ix2 ⟨512 * t.val + y0.val, by omega⟩ y1 : S18432x2816.Idx) := by blk_ext [idx t]
  refine Eq.trans ?_ (congrArg (Cert.ReferenceIdeal.Value.G3 (F := Ideal) _ _ _) e.symm)
  rw [Wt_eq]
  unfold Cert.ReferenceIdeal.Value.G3 yV
  rw [Cert.ReferenceIdeal.Hand.norm_x, Cert.ReferenceIdeal.Hand.spread_x, Cert.ReferenceIdeal.Hand.scale_x, Cert.ReferenceIdeal.Hand.codes_w]
  exact Pure.y_row _ _ _ _ _ _ _ _ y0 b s _ hbs (Xt_apply m c t y0 b s hbs) (Gt_apply m c) (Pure.gam_eq _) (Pure.wb_eq _) y1

/-- The activation scales. -/
theorem final7 (c : Dev nD) : (dats m 0 c).arrAt 7 (cfgs 0).N
    = Cert.ReferenceIdeal.Value.G7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  have e : ((cfg0.win 7).blk t).view.emb (ix2 y0 y1 : S24x768.Idx) = (ix2 y0 y1 : S24x768.Idx) := by blk_ext [idx t]
  refine Eq.trans ?_ (congrArg (Cert.ReferenceIdeal.Value.G7 (F := Ideal) _ _ _) e.symm)
  unfold Cert.ReferenceIdeal.Value.G7
  rw [Cert.ReferenceIdeal.Hand.scale_x]
  have hR : (6 * y0.val + y1.val / 128) % 144 = 6 * y0.val + y1.val / 128 := by omega
  refine (scal_apply m c ⟨(6 * y0.val + y1.val / 128) % 144, Nat.mod_lt _ (by decide)⟩ ⟨y1.val % 128, Nat.mod_lt _ (by decide)⟩).trans ?_
  have hN : (6 * y0.val + y1.val / 128) % 144 / 4 < cfg0.N := by rw [show cfg0.N = 36 from N_0]; omega
  exact Pure.scale_row _ _ _ _ _ y0 y1 (Xt_apply m c ⟨(6 * y0.val + y1.val / 128) % 144 / 4, hN⟩ _ y0 y1 (by
    show 512 * ((6 * y0.val + y1.val / 128) % 144 / 4) + (128 * ((6 * y0.val + y1.val / 128) % 144 % 4) + y1.val % 128) = 768 * y0.val + y1.val
    omega)) (Gt_apply m c)

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.K.Data
public import proofs.«01_k».proof.Proof.KI.Arrays
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- A function of three arguments at equal arguments. -/
theorem cong3 {A B C D : Type} (f : A → B → C → D) {a a' : A} {b b' : B} {c c' : C} (ha : a = a') (hb : b = b') (hc : c = c') :
    f a b c = f a' b' c' := by subst ha hb hc; rfl

/-- The idealized kernel and the idealized reference end with equal results. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.ReferenceIdeal.Value.G3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Value.G7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · run_from Cert.KernelIdeal.Hand.run_main m g
    · exact Cert.KernelIdeal.Hand.final3 m _
    · exact Cert.KernelIdeal.Hand.final4 m _
    · exact Cert.KernelIdeal.Hand.final5 m _
    · exact Cert.KernelIdeal.Hand.final6 m _
    · exact Cert.KernelIdeal.Hand.final7 m _
  · refine (θ_run _ _ _).mono (fun r h c => ?_) (Cert.ReferenceIdeal.Value.run m' g')
    obtain ⟨e3, e4, e5, e6, e7, k0, k1, k2⟩ := h c
    obtain ⟨h0, h1, h2⟩ := hag c
    exact ⟨e3.trans (cong3 (Cert.ReferenceIdeal.Value.G3 (F := Ideal)) h0 h1 h2),
      e4.trans (cong3 (Cert.ReferenceIdeal.Value.G4 (F := Ideal)) h0 h1 h2),
      e5.trans (cong3 (Cert.ReferenceIdeal.Value.G5 (F := Ideal)) h0 h1 h2),
      e6.trans (cong3 (Cert.ReferenceIdeal.Value.G6 (F := Ideal)) h0 h1 h2),
      e7.trans (cong3 (Cert.ReferenceIdeal.Value.G7 (F := Ideal)) h0 h1 h2), k0, k1, k2⟩

/-- All five claims. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g, fun m g _ => Cert.ReferenceIdeal.Gen.frame m g,
    trivial, algebraic⟩

end Cert.Proof

end
